-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Prologue (m : (ℓ : Loc Cert.Prologue.nD Cert.Prologue.τ Cert.Prologue.sig) → Buf (Elt Bits) ℓ) : Prop :=
  True

def Pre_PrologueIdeal (m : (ℓ : Loc Cert.PrologueIdeal.nD Cert.PrologueIdeal.τ Cert.PrologueIdeal.sig) → Buf (Elt Ideal) ℓ) : Prop :=
  True

def Pre_PrologueRefIdeal (m : (ℓ : Loc Cert.PrologueRefIdeal.nD Cert.PrologueRefIdeal.τ Cert.PrologueRefIdeal.sig) → Buf (Elt Ideal) ℓ) : Prop :=
  True

def Pre_Scatter [hPre_apart : Cert.Pre_apart.Facts] (m : (ℓ : Loc Cert.Scatter.nD Cert.Scatter.τ Cert.Scatter.sig) → Buf (Elt Bits) ℓ) : Prop :=
  ∀ c : Dev Cert.Scatter.nD,
    (Cert.Pre_apart.fn (F := Bits) (m ((c.tc : Thread Cert.Scatter.nD Cert.Scatter.τ).loc Cert.Scatter.main_arg0)) (m ((c.tc : Thread Cert.Scatter.nD Cert.Scatter.τ).loc Cert.Scatter.main_arg1)) (m ((c.tc : Thread Cert.Scatter.nD Cert.Scatter.τ).loc Cert.Scatter.main_arg2))) = (fun _ => 1#1)

def Pre_ScatterIdeal [hPre_apart : Cert.Pre_apart.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_apart.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1)) (m ((c.tc : Thread Cert.ScatterIdeal.nD Cert.ScatterIdeal.τ).loc Cert.ScatterIdeal.main_arg2))) = (fun _ => 1#1)

def Pre_ScatterRefIdeal (m : (ℓ : Loc Cert.ScatterRefIdeal.nD Cert.ScatterRefIdeal.τ Cert.ScatterRefIdeal.sig) → Buf (Elt Ideal) ℓ) : Prop :=
  True

def Pre_ScatterRefIdeal_apart [hPre_apart : Cert.Pre_apart.Facts] (m : (ℓ : Loc Cert.ScatterRefIdeal.nD Cert.ScatterRefIdeal.τ Cert.ScatterRefIdeal.sig) → Buf (Elt Ideal) ℓ) : Prop :=
  ∀ c : Dev Cert.ScatterRefIdeal.nD,
    (Cert.Pre_apart.fn (F := Ideal) (m ((c.tc : Thread Cert.ScatterRefIdeal.nD Cert.ScatterRefIdeal.τ).loc Cert.ScatterRefIdeal.main_arg0)) (m ((c.tc : Thread Cert.ScatterRefIdeal.nD Cert.ScatterRefIdeal.τ).loc Cert.ScatterRefIdeal.main_arg1)) (m ((c.tc : Thread Cert.ScatterRefIdeal.nD Cert.ScatterRefIdeal.τ).loc Cert.ScatterRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Prologue [hPrologue : Cert.Prologue.Facts] : Prop :=
  ∀ (m : (ℓ : Loc Cert.Prologue.nD Cert.Prologue.τ Cert.Prologue.sig) → Buf (Elt Bits) ℓ) (g : Dev Cert.Prologue.nD → PrngReg), Pre_Prologue m →
    θ_run (Cert.Prologue.defs (F := Bits)) (onTc (τ := Cert.Prologue.τ) (Cert.Prologue.main (F := Bits))) ⟨m, fun _ => 0, g⟩ (fun r => (∀ c : Dev Cert.Prologue.nD,
      r.2.mem ((c.tc : Thread Cert.Prologue.nD Cert.Prologue.τ).loc Cert.Prologue.main_arg0) = m ((c.tc : Thread Cert.Prologue.nD Cert.Prologue.τ).loc Cert.Prologue.main_arg0)
      ∧ r.2.mem ((c.tc : Thread Cert.Prologue.nD Cert.Prologue.τ).loc Cert.Prologue.main_arg1) = m ((c.tc : Thread Cert.Prologue.nD Cert.Prologue.τ).loc Cert.Prologue.main_arg1)
      ∧ r.2.mem ((c.tc : Thread Cert.Prologue.nD Cert.Prologue.τ).loc Cert.Prologue.main_arg2) = m ((c.tc : Thread Cert.Prologue.nD Cert.Prologue.τ).loc Cert.Prologue.main_arg2)
      ∧ r.2.mem ((c.tc : Thread Cert.Prologue.nD Cert.Prologue.τ).loc Cert.Prologue.main_arg3) = m ((c.tc : Thread Cert.Prologue.nD Cert.Prologue.τ).loc Cert.Prologue.main_arg3)
      ∧ r.2.mem ((c.tc : Thread Cert.Prologue.nD Cert.Prologue.τ).loc Cert.Prologue.main_arg4) = m ((c.tc : Thread Cert.Prologue.nD Cert.Prologue.τ).loc Cert.Prologue.main_arg4)
      ∧ r.2.mem ((c.tc : Thread Cert.Prologue.nD Cert.Prologue.τ).loc Cert.Prologue.main_arg5) = m ((c.tc : Thread Cert.Prologue.nD Cert.Prologue.τ).loc Cert.Prologue.main_arg5))
      ∧ r.2.sem = fun _ => 0)

def quiescent_PrologueIdeal [hPrologueIdeal : Cert.PrologueIdeal.Facts] : Prop :=
  ∀ (m : (ℓ : Loc Cert.PrologueIdeal.nD Cert.PrologueIdeal.τ Cert.PrologueIdeal.sig) → Buf (Elt Ideal) ℓ) (g : Dev Cert.PrologueIdeal.nD → PrngReg), Pre_PrologueIdeal m →
    θ_run (Cert.PrologueIdeal.defs (F := Ideal)) (onTc (τ := Cert.PrologueIdeal.τ) (Cert.PrologueIdeal.main (F := Ideal))) ⟨m, fun _ => 0, g⟩ (fun r => (∀ c : Dev Cert.PrologueIdeal.nD,
      r.2.mem ((c.tc : Thread Cert.PrologueIdeal.nD Cert.PrologueIdeal.τ).loc Cert.PrologueIdeal.main_arg0) = m ((c.tc : Thread Cert.PrologueIdeal.nD Cert.PrologueIdeal.τ).loc Cert.PrologueIdeal.main_arg0)
      ∧ r.2.mem ((c.tc : Thread Cert.PrologueIdeal.nD Cert.PrologueIdeal.τ).loc Cert.PrologueIdeal.main_arg1) = m ((c.tc : Thread Cert.PrologueIdeal.nD Cert.PrologueIdeal.τ).loc Cert.PrologueIdeal.main_arg1)
      ∧ r.2.mem ((c.tc : Thread Cert.PrologueIdeal.nD Cert.PrologueIdeal.τ).loc Cert.PrologueIdeal.main_arg2) = m ((c.tc : Thread Cert.PrologueIdeal.nD Cert.PrologueIdeal.τ).loc Cert.PrologueIdeal.main_arg2)
      ∧ r.2.mem ((c.tc : Thread Cert.PrologueIdeal.nD Cert.PrologueIdeal.τ).loc Cert.PrologueIdeal.main_arg3) = m ((c.tc : Thread Cert.PrologueIdeal.nD Cert.PrologueIdeal.τ).loc Cert.PrologueIdeal.main_arg3)
      ∧ r.2.mem ((c.tc : Thread Cert.PrologueIdeal.nD Cert.PrologueIdeal.τ).loc Cert.PrologueIdeal.main_arg4) = m ((c.tc : Thread Cert.PrologueIdeal.nD Cert.PrologueIdeal.τ).loc Cert.PrologueIdeal.main_arg4)
      ∧ r.2.mem ((c.tc : Thread Cert.PrologueIdeal.nD Cert.PrologueIdeal.τ).loc Cert.PrologueIdeal.main_arg5) = m ((c.tc : Thread Cert.PrologueIdeal.nD Cert.PrologueIdeal.τ).loc Cert.PrologueIdeal.main_arg5))
      ∧ r.2.sem = fun _ => 0)

def quiescent_PrologueRefIdeal [hPrologueRefIdeal : Cert.PrologueRefIdeal.Facts] : Prop :=
  ∀ (m : (ℓ : Loc Cert.PrologueRefIdeal.nD Cert.PrologueRefIdeal.τ Cert.PrologueRefIdeal.sig) → Buf (Elt Ideal) ℓ) (g : Dev Cert.PrologueRefIdeal.nD → PrngReg), Pre_PrologueRefIdeal m →
    θ_run (Cert.PrologueRefIdeal.defs (F := Ideal)) (onTc (τ := Cert.PrologueRefIdeal.τ) (Cert.PrologueRefIdeal.main (F := Ideal))) ⟨m, fun _ => 0, g⟩ (fun r => (∀ c : Dev Cert.PrologueRefIdeal.nD,
      r.2.mem ((c.tc : Thread Cert.PrologueRefIdeal.nD Cert.PrologueRefIdeal.τ).loc Cert.PrologueRefIdeal.main_arg0) = m ((c.tc : Thread Cert.PrologueRefIdeal.nD Cert.PrologueRefIdeal.τ).loc Cert.PrologueRefIdeal.main_arg0)
      ∧ r.2.mem ((c.tc : Thread Cert.PrologueRefIdeal.nD Cert.PrologueRefIdeal.τ).loc Cert.PrologueRefIdeal.main_arg1) = m ((c.tc : Thread Cert.PrologueRefIdeal.nD Cert.PrologueRefIdeal.τ).loc Cert.PrologueRefIdeal.main_arg1)
      ∧ r.2.mem ((c.tc : Thread Cert.PrologueRefIdeal.nD Cert.PrologueRefIdeal.τ).loc Cert.PrologueRefIdeal.main_arg2) = m ((c.tc : Thread Cert.PrologueRefIdeal.nD Cert.PrologueRefIdeal.τ).loc Cert.PrologueRefIdeal.main_arg2)
      ∧ r.2.mem ((c.tc : Thread Cert.PrologueRefIdeal.nD Cert.PrologueRefIdeal.τ).loc Cert.PrologueRefIdeal.main_arg3) = m ((c.tc : Thread Cert.PrologueRefIdeal.nD Cert.PrologueRefIdeal.τ).loc Cert.PrologueRefIdeal.main_arg3)
      ∧ r.2.mem ((c.tc : Thread Cert.PrologueRefIdeal.nD Cert.PrologueRefIdeal.τ).loc Cert.PrologueRefIdeal.main_arg4) = m ((c.tc : Thread Cert.PrologueRefIdeal.nD Cert.PrologueRefIdeal.τ).loc Cert.PrologueRefIdeal.main_arg4)
      ∧ r.2.mem ((c.tc : Thread Cert.PrologueRefIdeal.nD Cert.PrologueRefIdeal.τ).loc Cert.PrologueRefIdeal.main_arg5) = m ((c.tc : Thread Cert.PrologueRefIdeal.nD Cert.PrologueRefIdeal.τ).loc Cert.PrologueRefIdeal.main_arg5))
      ∧ r.2.sem = fun _ => 0)

def quiescent_Scatter [hScatter : Cert.Scatter.Facts] [hPre_apart : Cert.Pre_apart.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2))
      ∧ r.2.sem = fun _ => 0)

def quiescent_ScatterIdeal [hScatterIdeal : Cert.ScatterIdeal.Facts] [hPre_apart : Cert.Pre_apart.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2))
      ∧ r.2.sem = fun _ => 0)

def quiescent_ScatterRefIdeal_pre_apart [hScatterRefIdeal : Cert.ScatterRefIdeal.Facts] [hPre_apart : Cert.Pre_apart.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal_apart m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Prologue_PrologueIdeal : Prop :=
  True

def algebraic_PrologueIdeal_PrologueRefIdeal [hPrologueIdeal : Cert.PrologueIdeal.Facts] [hPrologueRefIdeal : Cert.PrologueRefIdeal.Facts] : Prop :=
  ∀ (m : (ℓ : Loc Cert.PrologueIdeal.nD Cert.PrologueIdeal.τ Cert.PrologueIdeal.sig) → Buf (Elt Ideal) ℓ) (g : Dev Cert.PrologueIdeal.nD → PrngReg)
    (m' : (ℓ : Loc Cert.PrologueRefIdeal.nD Cert.PrologueRefIdeal.τ Cert.PrologueRefIdeal.sig) → Buf (Elt Ideal) ℓ) (g' : Dev Cert.PrologueRefIdeal.nD → PrngReg), Pre_PrologueIdeal m →
    (∀ c : Dev Cert.PrologueIdeal.nD,
      m' ((c.tc : Thread Cert.PrologueRefIdeal.nD Cert.PrologueRefIdeal.τ).loc Cert.PrologueRefIdeal.main_arg0) = m ((c.tc : Thread Cert.PrologueIdeal.nD Cert.PrologueIdeal.τ).loc Cert.PrologueIdeal.main_arg0)
      ∧ m' ((c.tc : Thread Cert.PrologueRefIdeal.nD Cert.PrologueRefIdeal.τ).loc Cert.PrologueRefIdeal.main_arg1) = m ((c.tc : Thread Cert.PrologueIdeal.nD Cert.PrologueIdeal.τ).loc Cert.PrologueIdeal.main_arg1)
      ∧ m' ((c.tc : Thread Cert.PrologueRefIdeal.nD Cert.PrologueRefIdeal.τ).loc Cert.PrologueRefIdeal.main_arg2) = m ((c.tc : Thread Cert.PrologueIdeal.nD Cert.PrologueIdeal.τ).loc Cert.PrologueIdeal.main_arg2)
      ∧ m' ((c.tc : Thread Cert.PrologueRefIdeal.nD Cert.PrologueRefIdeal.τ).loc Cert.PrologueRefIdeal.main_arg3) = m ((c.tc : Thread Cert.PrologueIdeal.nD Cert.PrologueIdeal.τ).loc Cert.PrologueIdeal.main_arg3)
      ∧ m' ((c.tc : Thread Cert.PrologueRefIdeal.nD Cert.PrologueRefIdeal.τ).loc Cert.PrologueRefIdeal.main_arg4) = m ((c.tc : Thread Cert.PrologueIdeal.nD Cert.PrologueIdeal.τ).loc Cert.PrologueIdeal.main_arg4)
      ∧ m' ((c.tc : Thread Cert.PrologueRefIdeal.nD Cert.PrologueRefIdeal.τ).loc Cert.PrologueRefIdeal.main_arg5) = m ((c.tc : Thread Cert.PrologueIdeal.nD Cert.PrologueIdeal.τ).loc Cert.PrologueIdeal.main_arg5)) →
    ∃ (v0 : (c : Dev Cert.PrologueIdeal.nD) → Buf (Elt Ideal) ((c.tc : Thread Cert.PrologueIdeal.nD Cert.PrologueIdeal.τ).loc Cert.PrologueIdeal.main_v2_0)) (v1 : (c : Dev Cert.PrologueIdeal.nD) → Buf (Elt Ideal) ((c.tc : Thread Cert.PrologueIdeal.nD Cert.PrologueIdeal.τ).loc Cert.PrologueIdeal.main_v2_1)),
      θ_run (Cert.PrologueIdeal.defs (F := Ideal)) (onTc (τ := Cert.PrologueIdeal.τ) (Cert.PrologueIdeal.main (F := Ideal))) ⟨m, fun _ => 0, g⟩ (fun r => ∀ c : Dev Cert.PrologueIdeal.nD,
          r.2.mem ((c.tc : Thread Cert.PrologueIdeal.nD Cert.PrologueIdeal.τ).loc Cert.PrologueIdeal.main_v2_0) = v0 c
          ∧ r.2.mem ((c.tc : Thread Cert.PrologueIdeal.nD Cert.PrologueIdeal.τ).loc Cert.PrologueIdeal.main_v2_1) = v1 c
          ∧ r.2.mem ((c.tc : Thread Cert.PrologueIdeal.nD Cert.PrologueIdeal.τ).loc Cert.PrologueIdeal.main_arg0) = m ((c.tc : Thread Cert.PrologueIdeal.nD Cert.PrologueIdeal.τ).loc Cert.PrologueIdeal.main_arg0)
          ∧ r.2.mem ((c.tc : Thread Cert.PrologueIdeal.nD Cert.PrologueIdeal.τ).loc Cert.PrologueIdeal.main_arg1) = m ((c.tc : Thread Cert.PrologueIdeal.nD Cert.PrologueIdeal.τ).loc Cert.PrologueIdeal.main_arg1)
          ∧ r.2.mem ((c.tc : Thread Cert.PrologueIdeal.nD Cert.PrologueIdeal.τ).loc Cert.PrologueIdeal.main_arg2) = m ((c.tc : Thread Cert.PrologueIdeal.nD Cert.PrologueIdeal.τ).loc Cert.PrologueIdeal.main_arg2)
          ∧ r.2.mem ((c.tc : Thread Cert.PrologueIdeal.nD Cert.PrologueIdeal.τ).loc Cert.PrologueIdeal.main_arg3) = m ((c.tc : Thread Cert.PrologueIdeal.nD Cert.PrologueIdeal.τ).loc Cert.PrologueIdeal.main_arg3)
          ∧ r.2.mem ((c.tc : Thread Cert.PrologueIdeal.nD Cert.PrologueIdeal.τ).loc Cert.PrologueIdeal.main_arg4) = m ((c.tc : Thread Cert.PrologueIdeal.nD Cert.PrologueIdeal.τ).loc Cert.PrologueIdeal.main_arg4)
          ∧ r.2.mem ((c.tc : Thread Cert.PrologueIdeal.nD Cert.PrologueIdeal.τ).loc Cert.PrologueIdeal.main_arg5) = m ((c.tc : Thread Cert.PrologueIdeal.nD Cert.PrologueIdeal.τ).loc Cert.PrologueIdeal.main_arg5))
      ∧ θ_run (Cert.PrologueRefIdeal.defs (F := Ideal)) (onTc (τ := Cert.PrologueRefIdeal.τ) (Cert.PrologueRefIdeal.main (F := Ideal))) ⟨m', fun _ => 0, g'⟩ (fun r => ∀ c : Dev Cert.PrologueRefIdeal.nD,
          r.2.mem ((c.tc : Thread Cert.PrologueRefIdeal.nD Cert.PrologueRefIdeal.τ).loc Cert.PrologueRefIdeal.main_v9) = v0 c
          ∧ r.2.mem ((c.tc : Thread Cert.PrologueRefIdeal.nD Cert.PrologueRefIdeal.τ).loc Cert.PrologueRefIdeal.main_v10) = v1 c
          ∧ r.2.mem ((c.tc : Thread Cert.PrologueRefIdeal.nD Cert.PrologueRefIdeal.τ).loc Cert.PrologueRefIdeal.main_arg0) = m' ((c.tc : Thread Cert.PrologueRefIdeal.nD Cert.PrologueRefIdeal.τ).loc Cert.PrologueRefIdeal.main_arg0)
          ∧ r.2.mem ((c.tc : Thread Cert.PrologueRefIdeal.nD Cert.PrologueRefIdeal.τ).loc Cert.PrologueRefIdeal.main_arg1) = m' ((c.tc : Thread Cert.PrologueRefIdeal.nD Cert.PrologueRefIdeal.τ).loc Cert.PrologueRefIdeal.main_arg1)
          ∧ r.2.mem ((c.tc : Thread Cert.PrologueRefIdeal.nD Cert.PrologueRefIdeal.τ).loc Cert.PrologueRefIdeal.main_arg2) = m' ((c.tc : Thread Cert.PrologueRefIdeal.nD Cert.PrologueRefIdeal.τ).loc Cert.PrologueRefIdeal.main_arg2)
          ∧ r.2.mem ((c.tc : Thread Cert.PrologueRefIdeal.nD Cert.PrologueRefIdeal.τ).loc Cert.PrologueRefIdeal.main_arg3) = m' ((c.tc : Thread Cert.PrologueRefIdeal.nD Cert.PrologueRefIdeal.τ).loc Cert.PrologueRefIdeal.main_arg3)
          ∧ r.2.mem ((c.tc : Thread Cert.PrologueRefIdeal.nD Cert.PrologueRefIdeal.τ).loc Cert.PrologueRefIdeal.main_arg4) = m' ((c.tc : Thread Cert.PrologueRefIdeal.nD Cert.PrologueRefIdeal.τ).loc Cert.PrologueRefIdeal.main_arg4)
          ∧ r.2.mem ((c.tc : Thread Cert.PrologueRefIdeal.nD Cert.PrologueRefIdeal.τ).loc Cert.PrologueRefIdeal.main_arg5) = m' ((c.tc : Thread Cert.PrologueRefIdeal.nD Cert.PrologueRefIdeal.τ).loc Cert.PrologueRefIdeal.main_arg5))

def preserves_Scatter_ScatterIdeal : Prop :=
  True

def algebraic_ScatterIdeal_ScatterRefIdeal [hScatterIdeal : Cert.ScatterIdeal.Facts] [hScatterRefIdeal : Cert.ScatterRefIdeal.Facts] [hPre_apart : Cert.Pre_apart.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)
      ∧ m' ((c.tc : Thread Cert.ScatterRefIdeal.nD Cert.ScatterRefIdeal.τ).loc Cert.ScatterRefIdeal.main_arg2) = m ((c.tc : Thread Cert.ScatterIdeal.nD Cert.ScatterIdeal.τ).loc Cert.ScatterIdeal.main_arg2)) →
    ∃ (v0 : (c : Dev Cert.ScatterIdeal.nD) → Buf (Elt Ideal) ((c.tc : Thread Cert.ScatterIdeal.nD Cert.ScatterIdeal.τ).loc Cert.ScatterIdeal.main_v0)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v0) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_v7) = v0 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1)
          ∧ r.2.mem ((c.tc : Thread Cert.ScatterRefIdeal.nD Cert.ScatterRefIdeal.τ).loc Cert.ScatterRefIdeal.main_arg2) = m' ((c.tc : Thread Cert.ScatterRefIdeal.nD Cert.ScatterRefIdeal.τ).loc Cert.ScatterRefIdeal.main_arg2))

def Claim : Prop :=
  ∃ (hKernel : Cert.Kernel.Facts) (hKernelIdeal : Cert.KernelIdeal.Facts) (hReferenceIdeal : Cert.ReferenceIdeal.Facts) (hPrologue : Cert.Prologue.Facts) (hPrologueIdeal : Cert.PrologueIdeal.Facts) (hPrologueRefIdeal : Cert.PrologueRefIdeal.Facts) (hScatter : Cert.Scatter.Facts) (hScatterIdeal : Cert.ScatterIdeal.Facts) (hScatterRefIdeal : Cert.ScatterRefIdeal.Facts) (hPre_finite : Cert.Pre_finite.Facts) (hPre_apart : Cert.Pre_apart.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prologue (hPrologue := hPrologue)
    ∧ quiescent_PrologueIdeal (hPrologueIdeal := hPrologueIdeal)
    ∧ quiescent_PrologueRefIdeal (hPrologueRefIdeal := hPrologueRefIdeal)
    ∧ quiescent_Scatter (hScatter := hScatter) (hPre_apart := hPre_apart)
    ∧ quiescent_ScatterIdeal (hScatterIdeal := hScatterIdeal) (hPre_apart := hPre_apart)
    ∧ quiescent_ScatterRefIdeal (hScatterRefIdeal := hScatterRefIdeal)
    ∧ quiescent_ScatterRefIdeal_pre_apart (hScatterRefIdeal := hScatterRefIdeal) (hPre_apart := hPre_apart)
    ∧ preserves_Kernel_KernelIdeal
    ∧ algebraic_KernelIdeal_ReferenceIdeal_pre_finite (hKernelIdeal := hKernelIdeal) (hReferenceIdeal := hReferenceIdeal) (hPre_finite := hPre_finite)
    ∧ preserves_Prologue_PrologueIdeal
    ∧ algebraic_PrologueIdeal_PrologueRefIdeal (hPrologueIdeal := hPrologueIdeal) (hPrologueRefIdeal := hPrologueRefIdeal)
    ∧ preserves_Scatter_ScatterIdeal
    ∧ algebraic_ScatterIdeal_ScatterRefIdeal (hScatterIdeal := hScatterIdeal) (hScatterRefIdeal := hScatterRefIdeal) (hPre_apart := hPre_apart)
-- ==== Pre_apart.lean ====
abbrev S1153x8192 : Shape := ⟨2, ![1153, 8192]⟩
abbrev S16 : Shape := ⟨1, ![16]⟩
abbrev S1153x8 : Shape := ⟨2, ![1153, 8]⟩
abbrev S8 : Shape := ⟨1, ![8]⟩
abbrev S_ : Shape := ⟨0, ![]⟩
abbrev S8x1 : Shape := ⟨2, ![8, 1]⟩
abbrev S7 : Shape := ⟨1, ![7]⟩
abbrev S1x7 : Shape := ⟨2, ![1, 7]⟩
abbrev S8x7 : Shape := ⟨2, ![8, 7]⟩

class Facts : Prop where
  slices_S16_S8_0 : S16.Slices ![0] S8
  bcast_S_S8 : S_.BroadcastsInDim S8 (![] : Fin 0 → Fin S8.rank)
  bcast_S8_S8x1_0 : S8.BroadcastsInDim S8x1 (![0] : Fin 1 → Fin S8x1.rank)
  slices_S8_S7_1 : S8.Slices ![1] S7
  bcast_S7_S1x7_1 : S7.BroadcastsInDim S1x7 (![1] : Fin 1 → Fin S1x7.rank)
  bcast_S8x1_S8x7_0_1 : S8x1.BroadcastsInDim S8x7 (![0, 1] : Fin 2 → Fin S8x7.rank)
  bcast_S1x7_S8x7_0_1 : S1x7.BroadcastsInDim S8x7 (![0, 1] : Fin 2 → Fin S8x7.rank)
  slices_S8_S7_0 : S8.Slices ![0] S7
  bcast_S_S7 : S_.BroadcastsInDim S7 (![] : Fin 0 → Fin S7.rank)
  reducesTo_S8_S_d0 : S8.ReducesTo [0] S_
  h_S_ : 0 < S_.numel
  reducesTo_S8x7_S_d0_1 : S8x7.ReducesTo [0, 1] S_

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_part1 {F : FTy → Type} [FloatOps F] (main_v5 : IVec S8 1) (main_v19 : IVec S8x7 1) (main_v20 : IVec S8 32) : IVec S_ 1 :=
  let main_v21 : IVec S8x1 32 := broadcastInDim S8x1 ![0] bcast_S8_S8x1_0 main_v20
  let main_v22 : IVec S7 32 := iotaInDim S7 32 0
  let main_c_2 : IVec S_ 32 := constantI S_ 32 1#32
  let main_v23 : IVec S7 32 := broadcastInDim S7 ![] bcast_S_S7 main_c_2
  let main_v24 : IVec S7 32 := addi main_v23 main_v22
  let main_v25 : IVec S1x7 32 := broadcastInDim S1x7 ![1] bcast_S7_S1x7_1 main_v24
  let main_v26 : IVec S8x7 32 := broadcastInDim S8x7 ![0, 1] bcast_S8x1_S8x7_0_1 main_v21
  let main_v27 : IVec S8x7 32 := broadcastInDim S8x7 ![0, 1] bcast_S1x7_S8x7_0_1 main_v25
  let main_v28 : IVec S8x7 1 := cmpi .sge main_v26 main_v27
  let main_c_3 : IVec S_ 1 := constantI S_ 1 1#1
  let main_v29 : IVec S_ 1 := (fun x v => Host.reduce IntOp.andi x v reducesTo_S8_S_d0 h_S_) main_v5 main_c_3
  let main_v30 : IVec S8x7 1 := ori main_v19 main_v28
  let main_c_4 : IVec S_ 1 := constantI S_ 1 1#1
  let main_v31 : IVec S_ 1 := (fun x v => Host.reduce IntOp.andi x v reducesTo_S8x7_S_d0_1 h_S_) main_v30 main_c_4
  let main_v32 : IVec S_ 1 := andi main_v29 main_v31
  main_v32

def fn {F : FTy → Type} [FloatOps F] (main_arg0 : FVec F S1153x8192 .f32) (main_arg1 : IVec S16 32) (main_arg2 : FVec F S1153x8 .f32) : IVec S_ 1 :=
  let main_v0 : IVec S8 32 := (extractStridedSlice S8 ![0] · slices_S16_S8_0) main_arg1
  let main_c : IVec S_ 32 := constantI S_ 32 0#32
  let main_v1 : IVec S8 32 := broadcastInDim S8 ![] bcast_S_S8 main_c
  let main_v2 : IVec S8 1 := cmpi .sge main_v0 main_v1
  let main_c_0 : IVec S_ 32 := constantI S_ 32 8192#32
  let main_v3 : IVec S8 32 := broadcastInDim S8 ![] bcast_S_S8 main_c_0
  let main_v4 : IVec S8 1 := cmpi .slt main_v0 main_v3
  let main_v5 : IVec S8 1 := andi main_v2 main_v4
  let main_c_1 : IVec S_ 32 := constantI S_ 32 128#32
  let main_v6 : IVec S8 32 := fn_floor_divide (F := F) main_v0 main_c_1
  let main_v7 : IVec S8x1 32 := broadcastInDim S8x1 ![0] bcast_S8_S8x1_0 main_v6
  let main_v8 : IVec S7 32 := (extractStridedSlice S7 ![1] · slices_S8_S7_1) main_v6
  let main_v9 : IVec S1x7 32 := broadcastInDim S1x7 ![1] bcast_S7_S1x7_1 main_v8
  let main_v10 : IVec S8x7 32 := broadcastInDim S8x7 ![0, 1] bcast_S8x1_S8x7_0_1 main_v7
  let main_v11 : IVec S8x7 32 := broadcastInDim S8x7 ![0, 1] bcast_S1x7_S8x7_0_1 main_v9
  let main_v12 : IVec S8x7 1 := cmpi .ne main_v10 main_v11
  let main_v13 : IVec S7 32 := (extractStridedSlice S7 ![1] · slices_S8_S7_1) main_v6
  let main_v14 : IVec S1x7 32 := broadcastInDim S1x7 ![1] bcast_S7_S1x7_1 main_v13
  let main_v15 : IVec S7 32 := (extractStridedSlice S7 ![0] · slices_S8_S7_0) main_v6
  let main_v16 : IVec S1x7 32 := broadcastInDim S1x7 ![1] bcast_S7_S1x7_1 main_v15
  let main_v17 : IVec S1x7 1 := cmpi .eq main_v14 main_v16
  let main_v18 : IVec S8x7 1 := broadcastInDim S8x7 ![0, 1] bcast_S1x7_S8x7_0_1 main_v17
  let main_v19 : IVec S8x7 1 := ori main_v12 main_v18
  let main_v20 : IVec S8 32 := iotaInDim S8 32 0
  fn_part1 (F := F) main_v5 main_v19 main_v20
-- ==== Pre_finite.lean ====
abbrev S8192x1153 : Shape := ⟨2, ![8192, 1153]⟩
abbrev S1153x2306 : Shape := ⟨2, ![1153, 2306]⟩
abbrev S1153x8 : Shape := ⟨2, ![1153, 8]⟩
abbrev S1x1153 : Shape := ⟨2, ![1, 1153]⟩
abbrev S1 : Shape := ⟨1, ![1]⟩
abbrev S_ : Shape := ⟨0, ![]⟩

class Facts : Prop where
  bcast_S_S1x1153 : S_.BroadcastsInDim S1x1153 (![] : Fin 0 → Fin S1x1153.rank)
  reducesTo_S1x1153_S_d0_1 : S1x1153.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8192x1153 .f32) (main_arg1 : FVec F S1153x2306 .f32) (main_arg2 : FVec F S1153x8 .f32) (main_arg3 : FVec F S1x1153 .f32) (main_arg4 : FVec F S1 .f32) (main_arg5 : FVec F S_ .f32) : IVec S_ 1 :=
  let main_v0 : FVec F S1x1153 .f32 := Host.absf main_arg3
  let main_cst : FVec F S_ .f32 := constant S_ .f32 0x7F800000#32
  let main_v1 : FVec F S1x1153 .f32 := broadcastInDim S1x1153 ![] bcast_S_S1x1153 main_cst
  let main_v2 : IVec S1x1153 1 := cmpf .olt main_v0 main_v1
  let main_c : IVec S_ 1 := constantI S_ 1 1#1
  let main_v3 : IVec S_ 1 := (fun x v => Host.reduce IntOp.andi x v reducesTo_S1x1153_S_d0_1 h_S_) main_v2 main_c
  let main_v4 : FVec F S1 .f32 := Host.absf main_arg4
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S8192x1153 : Shape := ⟨2, ![8192, 1153]⟩
abbrev S1153x2306 : Shape := ⟨2, ![1153, 2306]⟩
abbrev S1153x8 : Shape := ⟨2, ![1153, 8]⟩
abbrev S1x1153 : Shape := ⟨2, ![1, 1153]⟩
abbrev S1 : Shape := ⟨1, ![1]⟩
abbrev S_ : Shape := ⟨0, ![]⟩
abbrev S1x1 : Shape := ⟨2, ![1, 1]⟩
abbrev S1153x8192 : Shape := ⟨2, ![1153, 8192]⟩
abbrev S1x16 : Shape := ⟨2, ![1, 16]⟩
abbrev S1153x1024 : Shape := ⟨2, ![1153, 1024]⟩
abbrev S1153x1153 : Shape := ⟨2, ![1153, 1153]⟩
abbrev S8 : Shape := ⟨1, ![8]⟩
abbrev S1x1024 : Shape := ⟨2, ![1, 1024]⟩
abbrev S1153x1 : Shape := ⟨2, ![1153, 1]⟩
abbrev S1x1x1024 : Shape := ⟨3, ![1, 1, 1024]⟩
abbrev S1x1x1 : Shape := ⟨3, ![1, 1, 1]⟩

abbrev nBuf : Space → Nat
  | .hbm => 10
  | .vmem => 9
  | .smem => 4
  | _ => 0

abbrev bufTy : (tb : Table) → Fin (tcTables nBuf tb) → BufTy
  | .hbm, ⟨0, _⟩ => ⟨S8192x1153, .f32⟩
  | .hbm, ⟨1, _⟩ => ⟨S1153x2306, .f32⟩
  | .hbm, ⟨2, _⟩ => ⟨S1153x8, .f32⟩
  | .hbm, ⟨3, _⟩ => ⟨S1x1153, .f32⟩
  | .hbm, ⟨4, _⟩ => ⟨S1, .f32⟩
  | .hbm, ⟨5, _⟩ => ⟨S_, .f32⟩
  | .hbm, ⟨6, _⟩ => ⟨S1x1, .f32⟩
  | .hbm, ⟨7, _⟩ => ⟨S1153x8192, .f32⟩
  | .hbm, ⟨8, _⟩ => ⟨S1153x8192, .f32⟩
  | .hbm, ⟨9, _⟩ => ⟨S1x16, .i32⟩
  | .local _ .vmem, ⟨0, _⟩ => ⟨S1153x1024, .f32⟩
  | .local _ .vmem, ⟨1, _⟩ => ⟨S1153x1024, .f32⟩
  | .local _ .vmem, ⟨2, _⟩ => ⟨S1153x2306, .f32⟩
  | .local _ .vmem, ⟨3, _⟩ => ⟨S1153x8, .f32⟩
  | .local _ .vmem, ⟨4, _⟩ => ⟨S1x1153, .f32⟩
  | .local _ .vmem, ⟨5, _⟩ => ⟨S1153x1024, .f32⟩
  | .local _ .vmem, ⟨6, _⟩ => ⟨S1153x1024, .f32⟩
  | .local _ .vmem, ⟨7, _⟩ => ⟨S1x16, .i32⟩
  | .local _ .vmem, ⟨8, _⟩ => ⟨S1153x1153, .f32⟩
  | .local _ .smem, ⟨0, _⟩ => ⟨S1x1, .f32⟩
  | .local _ .smem, ⟨1, _⟩ => ⟨S8, .f32⟩
  | .local _ .smem, ⟨2, _⟩ => ⟨S8, .f32⟩
  | .local _ .smem, ⟨3, _⟩ => ⟨S8, .i32⟩
  | _, _ => ⟨S8192x1153, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_stg3_0 : Ref sig .tc := ⟨.smem, 0, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v347 : BitVec 1 := Scalar.cmpi .eq arg0 c7_i32
  let v348 : BitVec 32 := Scalar.extui v347
  let c0_i32_97 : BitVec 32 := 0#32
  let v349 : BitVec 1 := Scalar.cmpi .ne v348 c0_i32_97
  v349

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1153x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1153x2306 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1153x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1153 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1153x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x1153 : Shape := ⟨2, ![8192, 1153]⟩
abbrev S1153x2306 : Shape := ⟨2, ![1153, 2306]⟩
abbrev S1153x8 : Shape := ⟨2, ![1153, 8]⟩
abbrev S1x1153 : Shape := ⟨2, ![1, 1153]⟩
abbrev S1 : Shape := ⟨1, ![1]⟩
abbrev S_ : Shape := ⟨0, ![]⟩
abbrev S1153x1153 : Shape := ⟨2, ![1153, 1153]⟩
abbrev S8x1153 : Shape := ⟨2, ![8, 1153]⟩
abbrev S8x1x1153 : Shape := ⟨3, ![8, 1, 1153]⟩
abbrev S1x8192x1153 : Shape := ⟨3, ![1, 8192, 1153]⟩
abbrev S8x8192x1153 : Shape := ⟨3, ![8, 8192, 1153]⟩
abbrev S8x8192x1 : Shape := ⟨3, ![8, 8192, 1]⟩
abbrev S8x8192 : Shape := ⟨2, ![8, 8192]⟩
abbrev S8 : Shape := ⟨1, ![8]⟩
abbrev S8x1 : Shape := ⟨2, ![8, 1]⟩
abbrev S8x1x1 : Shape := ⟨3, ![8, 1, 1]⟩
abbrev S1x1x1 : Shape := ⟨3, ![1, 1, 1]⟩
abbrev S16 : Shape := ⟨1, ![16]⟩
abbrev S1x16 : Shape := ⟨2, ![1, 16]⟩
abbrev S1153x8192 : Shape := ⟨2, ![1153, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x1153, .f32⟩
  | .hbm, ⟨1, _⟩ => ⟨S1153x2306, .f32⟩
  | .hbm, ⟨2, _⟩ => ⟨S1153x8, .f32⟩
  | .hbm, ⟨3, _⟩ => ⟨S1x1153, .f32⟩
  | .hbm, ⟨4, _⟩ => ⟨S1, .f32⟩
  | .hbm, ⟨5, _⟩ => ⟨S_, .f32⟩
  | .hbm, ⟨6, _⟩ => ⟨S1153x1153, .f32⟩
  | .hbm, ⟨7, _⟩ => ⟨S8x1153, .f32⟩
  | .hbm, ⟨8, _⟩ => ⟨S1153x1153, .f32⟩
  | .hbm, ⟨9, _⟩ => ⟨S8192x1153, .f32⟩
  | .hbm, ⟨10, _⟩ => ⟨S8x1x1153, .f32⟩
  | .hbm, ⟨11, _⟩ => ⟨S1x8192x1153, .f32⟩
  | .hbm, ⟨12, _⟩ => ⟨S8x8192x1153, .f32⟩
  | .hbm, ⟨13, _⟩ => ⟨S8x8192x1153, .f32⟩
  | .hbm, ⟨14, _⟩ => ⟨S8x8192x1153, .f32⟩
  | .hbm, ⟨15, _⟩ => ⟨S8x8192x1153, .f32⟩
  | .hbm, ⟨16, _⟩ => ⟨S8x8192x1, .f32⟩
  | .hbm, ⟨17, _⟩ => ⟨S8x8192, .f32⟩
  | .hbm, ⟨18, _⟩ => ⟨S_, .f32⟩
  | .hbm, ⟨19, _⟩ => ⟨S8x8192, .f32⟩
  | .hbm, ⟨20, _⟩ => ⟨S8x8192, .f32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8x1, .f32⟩
  | .hbm, ⟨27, _⟩ => ⟨S8x8192, .f32⟩
  | .hbm, ⟨28, _⟩ => ⟨S8x8192, .f32⟩
  | .hbm, ⟨29, _⟩ => ⟨S8x8192, .f32⟩
  | .hbm, ⟨30, _⟩ => ⟨S_, .f32⟩
  | .hbm, ⟨31, _⟩ => ⟨S8, .f32⟩
  | .hbm, ⟨32, _⟩ => ⟨S8x1, .f32⟩
  | .hbm, ⟨33, _⟩ => ⟨S8x8192, .f32⟩
  | .hbm, ⟨34, _⟩ => ⟨S8x8192, .f32⟩
  | .hbm, ⟨35, _⟩ => ⟨S8x8192, .i32⟩
  | .hbm, ⟨36, _⟩ => ⟨S_, .f32⟩
  | .hbm, ⟨37, _⟩ => ⟨S_, .i32⟩
  | .hbm, ⟨38, _⟩ => ⟨S8, .f32⟩
  | .hbm, ⟨39, _⟩ => ⟨S8, .i32⟩
  | .hbm, ⟨40, _⟩ => ⟨S8x1, .i32⟩
  | .hbm, ⟨41, _⟩ => ⟨S_, .i32⟩
  | .hbm, ⟨42, _⟩ => ⟨S8x1, .i32⟩
  | .hbm, ⟨43, _⟩ => ⟨S8x1, .i1⟩
  | .hbm, ⟨44, _⟩ => ⟨S_, .i32⟩
  | .hbm, ⟨45, _⟩ => ⟨S8x1, .i32⟩
  | .hbm, ⟨46, _⟩ => ⟨S8x1, .i32⟩
  | .hbm, ⟨47, _⟩ => ⟨S8x1, .i32⟩
  | .hbm, ⟨48, _⟩ => ⟨S8x1x1, .i32⟩
  | .hbm, ⟨49, _⟩ => ⟨S1, .i32⟩
  | .hbm, ⟨50, _⟩ => ⟨S_, .i32⟩
  | .hbm, ⟨51, _⟩ => ⟨S8x1x1, .i32⟩
  | .hbm, ⟨52, _⟩ => ⟨S8x1x1, .i1⟩
  | .hbm, ⟨53, _⟩ => ⟨S1x1x1, .i32⟩
  | .hbm, ⟨54, _⟩ => ⟨S8x1x1, .i32⟩
  | .hbm, ⟨55, _⟩ => ⟨S8x1x1, .i1⟩
  | .hbm, ⟨56, _⟩ => ⟨S8x1x1, .i1⟩
  | .hbm, ⟨57, _⟩ => ⟨S_, .i1⟩
  | .hbm, ⟨58, _⟩ => ⟨S8x1, .i1⟩
  | .hbm, ⟨59, _⟩ => ⟨S8x1, .f32⟩
  | .hbm, ⟨60, _⟩ => ⟨S_, .f32⟩
  | .hbm, ⟨61, _⟩ => ⟨S8x1, .f32⟩
  | .hbm, ⟨62, _⟩ => ⟨S8x1, .f32⟩
  | .hbm, ⟨63, _⟩ => ⟨S8, .f32⟩
  | .hbm, ⟨64, _⟩ => ⟨S8, .f32⟩
  | .hbm, ⟨65, _⟩ => ⟨S8, .i1⟩
  | .hbm, ⟨66, _⟩ => ⟨S8, .i32⟩
  | .hbm, ⟨67, _⟩ => ⟨S16, .i32⟩
  | .hbm, ⟨68, _⟩ => ⟨S1x16, .i32⟩
  | .hbm, ⟨69, _⟩ => ⟨S1153x8192, .f32⟩
  | _, _ => ⟨S8192x1153, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v26 : Ref sig .tc := ⟨.hbm, 39, rfl⟩
abbrev main_v27 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩

abbrev nD : Nat := 1
abbrev τ : Topo := Topo.v7x

variable {F : FTy → Type} [FloatOps F]
-- ==== Prologue.lean ====
abbrev S8x1024 : Shape := ⟨2, ![8, 1024]⟩
abbrev S8x4672 : Shape := ⟨2, ![8, 4672]⟩
abbrev S8 : Shape := ⟨1, ![8]⟩
abbrev S4672x128 : Shape := ⟨2, ![4672, 128]⟩
abbrev S1153x2306 : Shape := ⟨2, ![1153, 2306]⟩
abbrev S1153 : Shape := ⟨1, ![1153]⟩
abbrev S8x1 : Shape := ⟨2, ![8, 1]⟩
abbrev S1x1153 : Shape := ⟨2, ![1, 1153]⟩
abbrev S1153x8 : Shape := ⟨2, ![1153, 8]⟩
abbrev S8x128 : Shape := ⟨2, ![8, 128]⟩
abbrev S8x1153 : Shape := ⟨2, ![8, 1153]⟩
abbrev S1153x1153 : Shape := ⟨2, ![1153, 1153]⟩

abbrev nBuf : Space → Nat
  | .hbm => 10
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S8x4672, .f32⟩
  | .hbm, ⟨2, _⟩ => ⟨S8, .f32⟩
  | .hbm, ⟨3, _⟩ => ⟨S4672x128, .f32⟩
  | .hbm, ⟨4, _⟩ => ⟨S1153x2306, .f32⟩
  | .hbm, ⟨5, _⟩ => ⟨S1153, .f32⟩
  | .hbm, ⟨6, _⟩ => ⟨S8x1, .f32⟩
  | .hbm, ⟨7, _⟩ => ⟨S1x1153, .f32⟩
  | .hbm, ⟨8, _⟩ => ⟨S1153x8, .f32⟩
  | .hbm, ⟨9, _⟩ => ⟨S1153x8, .f32⟩
  | .local _ .vmem, ⟨0, _⟩ => ⟨S8x1024, .f32⟩
  | .local _ .vmem, ⟨1, _⟩ => ⟨S8x4672, .f32⟩
  | .local _ .vmem, ⟨2, _⟩ => ⟨S8x1, .f32⟩
  | .local _ .vmem, ⟨3, _⟩ => ⟨S4672x128, .f32⟩
  | .local _ .vmem, ⟨4, _⟩ => ⟨S1153x2306, .f32⟩
  | .local _ .vmem, ⟨5, _⟩ => ⟨S1x1153, .f32⟩
  | .local _ .vmem, ⟨6, _⟩ => ⟨S1153x8, .f32⟩
  | .local _ .vmem, ⟨7, _⟩ => ⟨S1153x8, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4672x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1153x2306 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1153 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1153x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1153x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== PrologueRefIdeal.lean ====
abbrev S8x1024 : Shape := ⟨2, ![8, 1024]⟩
abbrev S8x4672 : Shape := ⟨2, ![8, 4672]⟩
abbrev S8 : Shape := ⟨1, ![8]⟩
abbrev S4672x128 : Shape := ⟨2, ![4672, 128]⟩
abbrev S1153x2306 : Shape := ⟨2, ![1153, 2306]⟩
abbrev S1153 : Shape := ⟨1, ![1153]⟩
abbrev S8x128 : Shape := ⟨2, ![8, 128]⟩
abbrev S8x1 : Shape := ⟨2, ![8, 1]⟩
abbrev S8x1153 : Shape := ⟨2, ![8, 1153]⟩
abbrev S1153x1153 : Shape := ⟨2, ![1153, 1153]⟩
abbrev S1x1153 : Shape := ⟨2, ![1, 1153]⟩
abbrev S1153x8 : Shape := ⟨2, ![1153, 8]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x4672, .f32⟩
  | .hbm, ⟨2, _⟩ => ⟨S8, .f32⟩
  | .hbm, ⟨3, _⟩ => ⟨S4672x128, .f32⟩
  | .hbm, ⟨4, _⟩ => ⟨S1153x2306, .f32⟩
  | .hbm, ⟨5, _⟩ => ⟨S1153, .f32⟩
  | .hbm, ⟨6, _⟩ => ⟨S8x128, .f32⟩
  | .hbm, ⟨7, _⟩ => ⟨S8x1, .f32⟩
  | .hbm, ⟨8, _⟩ => ⟨S8x1153, .f32⟩
  | .hbm, ⟨9, _⟩ => ⟨S1153x1153, .f32⟩
  | .hbm, ⟨10, _⟩ => ⟨S1153x1153, .f32⟩
  | .hbm, ⟨11, _⟩ => ⟨S8x1153, .f32⟩
  | .hbm, ⟨12, _⟩ => ⟨S1x1153, .f32⟩
  | .hbm, ⟨13, _⟩ => ⟨S8x1153, .f32⟩
  | .hbm, ⟨14, _⟩ => ⟨S8x1153, .f32⟩
  | .hbm, ⟨15, _⟩ => ⟨S1153x8, .f32⟩
  | .hbm, ⟨16, _⟩ => ⟨S1153x8, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Scatter.lean ====
abbrev S1153x8192 : Shape := ⟨2, ![1153, 8192]⟩
abbrev S16 : Shape := ⟨1, ![16]⟩
abbrev S1153x8 : Shape := ⟨2, ![1153, 8]⟩
abbrev S1153x128 : Shape := ⟨2, ![1153, 128]⟩
abbrev S1 : Shape := ⟨1, ![1]⟩
abbrev S1153x1 : Shape := ⟨2, ![1153, 1]⟩

abbrev nBuf : Space → Nat
  | .hbm => 3
  | .vmem => 5
  | .smem => 1
  | _ => 0

abbrev bufTy : (tb : Table) → Fin (tcTables nBuf tb) → BufTy
  | .hbm, ⟨0, _⟩ => ⟨S1153x8192, .f32⟩
  | .hbm, ⟨1, _⟩ => ⟨S1153x8, .f32⟩
  | .hbm, ⟨2, _⟩ => ⟨S1153x8192, .f32⟩
  | .local _ .vmem, ⟨0, _⟩ => ⟨S1153x8, .f32⟩
  | .local _ .vmem, ⟨1, _⟩ => ⟨S1153x128, .f32⟩
  | .local _ .vmem, ⟨2, _⟩ => ⟨S1153x128, .f32⟩
  | .local _ .vmem, ⟨3, _⟩ => ⟨S1153x128, .f32⟩
  | .local _ .vmem, ⟨4, _⟩ => ⟨S1153x128, .f32⟩
  | .local _ .smem, ⟨0, _⟩ => ⟨S16, .i32⟩
  | _, _ => ⟨S1153x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c128_i32 : BitVec 32 := 128#32
  let v2 : BitVec 32 := Scalar.divsi v1 c128_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![c0_i32_4.toNat, v18.toNat]

def cc0_transform_2 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c128_i32 : BitVec 32 := 128#32
  let v2 : BitVec 32 := Scalar.divsi v1 c128_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![c0_i32_4.toNat, v18.toNat]

abbrev stage0_0 : Fin 1 → Memref sig .tc .vmem S1153x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1153x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1153x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScatterRefIdeal.lean ====
abbrev S1153x8192 : Shape := ⟨2, ![1153, 8192]⟩
abbrev S16 : Shape := ⟨1, ![16]⟩
abbrev S1153x8 : Shape := ⟨2, ![1153, 8]⟩
abbrev S8192x1153 : Shape := ⟨2, ![8192, 1153]⟩
abbrev S8x1153 : Shape := ⟨2, ![8, 1153]⟩
abbrev S8 : Shape := ⟨1, ![8]⟩
abbrev S_ : Shape := ⟨0, ![]⟩
abbrev S1 : Shape := ⟨1, ![1]⟩
abbrev S1x1153 : Shape := ⟨2, ![1, 1153]⟩
abbrev S1153 : Shape := ⟨1, ![1153]⟩

abbrev nBuf : Space → Nat
  | .hbm => 36
  | .vmem => 0
  | .smem => 0
  | _ => 0

abbrev bufTy : (tb : Table) → Fin (tcTables nBuf tb) → BufTy
  | .hbm, ⟨0, _⟩ => ⟨S1153x8192, .f32⟩
  | .hbm, ⟨1, _⟩ => ⟨S16, .i32⟩
  | .hbm, ⟨2, _⟩ => ⟨S1153x8, .f32⟩
  | .hbm, ⟨3, _⟩ => ⟨S8192x1153, .f32⟩
  | .hbm, ⟨4, _⟩ => ⟨S8x1153, .f32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S_, .i32⟩
  | .hbm, ⟨11, _⟩ => ⟨S8, .i1⟩
  | .hbm, ⟨12, _⟩ => ⟨S8, .i32⟩
  | .hbm, ⟨13, _⟩ => ⟨S8x1153, .f32⟩
  | .hbm, ⟨14, _⟩ => ⟨S_, .i32⟩
  | .hbm, ⟨15, _⟩ => ⟨S8192x1153, .f32⟩
  | .hbm, ⟨16, _⟩ => ⟨S_, .i32⟩
  | .hbm, ⟨17, _⟩ => ⟨S_, .i1⟩
  | .hbm, ⟨18, _⟩ => ⟨S1, .i1⟩
  | .hbm, ⟨19, _⟩ => ⟨S_, .i1⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S1x1153, .f32⟩
  | .hbm, ⟨24, _⟩ => ⟨S1153, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S8192x1153, .f32⟩
  | .hbm, ⟨32, _⟩ => ⟨S8192x1153, .f32⟩
  | .hbm, ⟨33, _⟩ => ⟨S_, .i32⟩
  | .hbm, ⟨34, _⟩ => ⟨S_, .i32⟩
  | .hbm, ⟨35, _⟩ => ⟨S1153x8192, .f32⟩
  | _, _ => ⟨S1153x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_while0c_c_5 : Ref sig .tc := ⟨.hbm, 16, rfl⟩
abbrev main_while0c_v8 : Ref sig .tc := ⟨.hbm, 17, rfl⟩
abbrev main_while0b_call0_v0 : Ref sig .tc := ⟨.hbm, 18, rfl⟩
abbrev main_while0b_v8 : Ref sig .tc := ⟨.hbm, 19, rfl⟩
abbrev main_while0b_call1_v0 : Ref sig .tc := ⟨.hbm, 20, rfl⟩
abbrev main_while0b_v9 : Ref sig .tc := ⟨.hbm, 21, rfl⟩
abbrev main_while0b_call2_c : Ref sig .tc := ⟨.hbm, 22, rfl⟩
abbrev main_while0b_call2_v0 : Ref sig .tc := ⟨.hbm, 23, rfl⟩
abbrev main_while0b_v10 : Ref sig .tc := ⟨.hbm, 24, rfl⟩
abbrev main_while0b_c_5 : Ref sig .tc := ⟨.hbm, 25, rfl⟩
abbrev main_while0b_v11 : Ref sig .tc := ⟨.hbm, 26, rfl⟩
abbrev main_while0b_c_6 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_v16 : Ref sig .tc := ⟨.hbm, 32, rfl⟩
abbrev main_while0b_c_7 : Ref sig .tc := ⟨.hbm, 33, rfl⟩
abbrev main_while0b_v17 : Ref sig .tc := ⟨.hbm, 34, rfl⟩
abbrev main_v7 : Ref sig .tc := ⟨.hbm, 35, rfl⟩

abbrev nD : Nat := 1
abbrev τ : Topo := Topo.v7x

variable {F : FTy → Type} [FloatOps F]

abbrev main_while0_count : Scf.Loop 32 := ⟨0#32, 8#32, 1#32⟩
-- ==== Proof.Step.lean ====
/-
  What one grid point of the score kernel leaves in its scratch and its outputs, in a uniform vocabulary: for batch `b` the tile's scores
  `sc`, their maximum `mx`, the first lane that attains it `agI`, the sum of the shifted exponentials `sm`, and the carried maximum, sum and
  index after the tile (`nmax`, `nsum`, `nargI`).
-/
module

public import proofs.«01_k».proof.Proof.Gen.KernelIdeal.Value
public import Idealize.ShloMosaic.Lib.Pipeline.CanonAppend

@[expose] public section

noncomputable section

namespace Cert.KernelIdeal.Step

open Cert.KernelIdeal Cert.KernelIdeal.Gen Idealize.ShloMosaic Idealize.ShloMosaic.TcCoe Idealize.SL.Sem

variable {F : FTy → Type} [FloatOps F] [Named F]

/-- Column `b` of the eight columns. -/
def col (X : Vec F S1153x8 .f32) (b : Fin 8) : FVec F S1153x1 .f32 := fun i => X (fun a => match a with
  | ⟨0, _⟩ => ⟨(i 0).val, (i 0).isLt⟩
  | ⟨1, _⟩ => b)

theorem col_slice (X : Vec F S1153x8 .f32) (b : Fin 8) (h) : extractStridedSlice S1153x1 ![0, b.val] X h = col X b := by
  funext i
  unfold extractStridedSlice col
  refine congrArg X (funext fun a => Fin.ext ?_)
  match a with
  | ⟨0, _⟩ => show 0 + (i 0).val = (i 0).val; omega
  | ⟨1, _⟩ =>
    have : (i 1).val < 1 := (i 1).isLt
    show b.val + (i 1).val = b.val; omega

/-- Batch `b`'s scores of one tile: the second layer's weights against the hyperbolic tangent of the hidden layer. -/
def sc (P : FVec F S1153x1024 .f32) (X : Vec F S1153x8 .f32) (w : Vec F S1x1153 .f32) (b : Fin 8) : FVec F S1x1024 .f32 :=
  matmul dot_S1x1153_S1153x1024_S1x1024_1_0_0_1_n_n none w
    (tanh (addf P (broadcastTo S1153x1024 (col X b) broadcasts_S1153x1_S1153x1024))) (constant S1x1024 .f32 0x00000000#32)

/-- The tile's maximum. -/
def mx (s : FVec F S1x1024 .f32) : F .f32 :=
  extractAt ![0, 0, 0] (shapeCast S1x1x1 (multiReduction .maximumf [1, 2] S1 (shapeCast S1x1x1024 s shapeCasts_S1x1024_S1x1x1024) 0xFF800000#32
    reduces_S1x1x1024_S1 (.inl rfl) rfl) shapeCasts_S1_S1x1x1) inpos_S1x1x1_p0_0_0

/-- The first lane that attains the maximum, the lanes numbered by `I`. -/
def agI (I : IVec S1x1024 32) (s : FVec F S1x1024 .f32) : BitVec 32 :=
  extractAt ![0, 0, 0] (shapeCast S1x1x1 (multiReductionI .minsi [1, 2] S1 (shapeCast S1x1x1024
    (select (cmpf .oeq s (broadcast S1x1024 (mx s))) I (broadcast S1x1024 8192#32))
    shapeCasts_S1x1024_S1x1x1024) 2147483647#32 reduces_S1x1x1024_S1 rfl) shapeCasts_S1_S1x1x1) inpos_S1x1x1_p0_0_0

/-- The lanes' numbers. -/
def lanes : IVec S1x1024 32 := iota .tc S1x1024 32 [1] iota_S1x1024_d1_w32

/-- The sum of the exponentials of the scores less the maximum. -/
def sm (s : FVec F S1x1024 .f32) : F .f32 :=
  extractAt ![0, 0, 0] (shapeCast S1x1x1 (multiReduction .add [1, 2] S1 (shapeCast S1x1x1024 (exp (subf s (broadcast S1x1024 (mx s))))
    shapeCasts_S1x1024_S1x1x1024) 0x00000000#32 reduces_S1x1x1024_S1 (.inl rfl) rfl) shapeCasts_S1_S1x1x1) inpos_S1x1x1_p0_0_0

/-- The carried maximum after the tile. -/
def nmax (s : FVec F S1x1024 .f32) (M : Elt F .f32) : F .f32 := Scalar.maximumf M (mx s)

/-- The carried sum after the tile. -/
def nsum (s : FVec F S1x1024 .f32) (M L : Elt F .f32) : F .f32 :=
  Scalar.addf (Scalar.mulf L (Scalar.exp (Scalar.subf M (nmax s M)))) (Scalar.mulf (sm s) (Scalar.exp (Scalar.subf (mx s) (nmax s M))))

/-- The carried index after the tile whose first column is `1024 * n`, the lanes numbered by `I`. -/
def nargI (n : ℕ) (I : IVec S1x1024 32) (s : FVec F S1x1024 .f32) (M : Elt F .f32) (A : BitVec 32) : BitVec 32 :=
  Scalar.select (Scalar.cmpf .ogt (mx s) M) (Scalar.addi (Scalar.muli (BitVec.ofNat 32 n) 1024#32) (agI I s)) A

/-- Word `b` of the eight. -/
def at8 (b : ℕ) (hb : b < 8) : S8.Idx := fun a => ⟨b, match a with | ⟨0, _⟩ => hb⟩

theorem emb8 (b : ℕ) (hb : b < 8) (h) (x) : (Rect.unit (s := S8) ![b] ![1] h).emb x = at8 b hb := by
  funext a; apply Fin.ext
  match a with
  | ⟨0, _⟩ =>
    have : (x 0).val < 1 := (x 0).isLt
    show b + 1 * (x 0).val = b; omega

theorem ld8 {e : EltTy} (b : ℕ) (hb : b < 8) (h) (X : S8.Idx → Elt F e) (x) :
    View.ld (Val := Elt F) (e' := e) X (Rect.unit (s := S8) ![b] ![1] h) x = X (at8 b hb) :=
  congrArg X (emb8 b hb h x)

theorem piece_ok {e : EltTy} (G : S8.Idx → Elt F e) (b : ℕ) (hb : b < 8) (h) (p : Elt F e) (hp : p = G (at8 b hb)) :
    ∀ x : (⟨Rect.unit (s := S8) ![b] ![1] h, fun _ => p⟩ : View.Piece (Elt F) S8 e).1.shape.Idx,
      (⟨Rect.unit (s := S8) ![b] ![1] h, fun _ => p⟩ : View.Piece (Elt F) S8 e).2 x
        = G ((⟨Rect.unit (s := S8) ![b] ![1] h, fun _ => p⟩ : View.Piece (Elt F) S8 e).1.emb x) :=
  fun x => hp.trans (congrArg G (emb8 b hb h x).symm)

theorem mem8 (b : ℕ) (h : ∀ a, (![b] : Fin 1 → ℕ) a + (![1] : Fin 1 → ℕ) a ≤ S8.size a) (y : S8.Idx) (hy : (y 0).val = b) :
    y ∈ (Rect.unit (s := S8) ![b] ![1] h).set := by
  rw [Rect.mem_set_unit]
  intro a
  match a with
  | ⟨0, _⟩ => show b ≤ (y 0).val ∧ (y 0).val < b + 1; omega

/-- The batch a word belongs to. -/
def bi (y : S8.Idx) : Fin 8 := ⟨(y 0).val, (y 0).isLt⟩

/-- Eight one-word stores, one per word, read back whatever was stored before. -/
theorem pieces8 {e : EltTy} (G : S8.Idx → Elt F e) (L' : List (View.Piece (Elt F) S8 e)) (p0 p1 p2 p3 p4 p5 p6 p7 : Elt F e)
    (h0 : p0 = G (at8 0 (by decide))) (h1 : p1 = G (at8 1 (by decide))) (h2 : p2 = G (at8 2 (by decide))) (h3 : p3 = G (at8 3 (by decide)))
    (h4 : p4 = G (at8 4 (by decide))) (h5 : p5 = G (at8 5 (by decide))) (h6 : p6 = G (at8 6 (by decide))) (h7 : p7 = G (at8 7 (by decide))) :
    View.canon (Val := Elt F) ([⟨Rect.unit ![7] ![1] inb_S8_S1_7, fun _ => p7⟩, ⟨Rect.unit ![6] ![1] inb_S8_S1_6, fun _ => p6⟩,
      ⟨Rect.unit ![5] ![1] inb_S8_S1_5, fun _ => p5⟩, ⟨Rect.unit ![4] ![1] inb_S8_S1_4, fun _ => p4⟩,
      ⟨Rect.unit ![3] ![1] inb_S8_S1_3, fun _ => p3⟩, ⟨Rect.unit ![2] ![1] inb_S8_S1_2, fun _ => p2⟩,
      ⟨Rect.unit ![1] ![1] inb_S8_S1_1, fun _ => p1⟩, ⟨Rect.unit ![0] ![1] inb_S8_S1_0, fun _ => p0⟩] ++ L') = G := by
  funext y
  refine View.canon_append_of_pieces G L' _ ?_ y ?_
  · refine List.forall_mem_cons.mpr ⟨piece_ok G 7 _ _ p7 h7, ?_⟩
    refine List.forall_mem_cons.mpr ⟨piece_ok G 6 _ _ p6 h6, ?_⟩
    refine List.forall_mem_cons.mpr ⟨piece_ok G 5 _ _ p5 h5, ?_⟩
    refine List.forall_mem_cons.mpr ⟨piece_ok G 4 _ _ p4 h4, ?_⟩
    refine List.forall_mem_cons.mpr ⟨piece_ok G 3 _ _ p3 h3, ?_⟩
    refine List.forall_mem_cons.mpr ⟨piece_ok G 2 _ _ p2 h2, ?_⟩
    refine List.forall_mem_cons.mpr ⟨piece_ok G 1 _ _ p1 h1, ?_⟩
    refine List.forall_mem_cons.mpr ⟨piece_ok G 0 _ _ p0 h0, ?_⟩
    intro p hp
    exact absurd hp List.not_mem_nil
  · have hy : (y 0).val < 8 := (y 0).isLt
    have hc : (y 0).val = 0 ∨ (y 0).val = 1 ∨ (y 0).val = 2 ∨ (y 0).val = 3 ∨ (y 0).val = 4 ∨ (y 0).val = 5 ∨ (y 0).val = 6 ∨ (y 0).val = 7 := by omega
    rcases hc with h | h | h | h | h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem8 0 inb_S8_S1_0 y h⟩
    · exact ⟨_, (List.mem_cons_of_mem _ (List.mem_cons_of_mem _ (List.mem_cons_of_mem _ (List.mem_cons_of_mem _ (List.mem_cons_of_mem _ (List.mem_cons_of_mem _ List.mem_cons_self)))))), mem8 1 inb_S8_S1_1 y h⟩
    · exact ⟨_, (List.mem_cons_of_mem _ (List.mem_cons_of_mem _ (List.mem_cons_of_mem _ (List.mem_cons_of_mem _ (List.mem_cons_of_mem _ List.mem_cons_self))))), mem8 2 inb_S8_S1_2 y h⟩
    · exact ⟨_, (List.mem_cons_of_mem _ (List.mem_cons_of_mem _ (List.mem_cons_of_mem _ (List.mem_cons_of_mem _ List.mem_cons_self)))), mem8 3 inb_S8_S1_3 y h⟩
    · exact ⟨_, (List.mem_cons_of_mem _ (List.mem_cons_of_mem _ (List.mem_cons_of_mem _ List.mem_cons_self))), mem8 4 inb_S8_S1_4 y h⟩
    · exact ⟨_, (List.mem_cons_of_mem _ (List.mem_cons_of_mem _ List.mem_cons_self)), mem8 5 inb_S8_S1_5 y h⟩
    · exact ⟨_, (List.mem_cons_of_mem _ List.mem_cons_self), mem8 6 inb_S8_S1_6 y h⟩
    · exact ⟨_, List.mem_cons_self, mem8 7 inb_S8_S1_7 y h⟩

theorem pay_w (w : Vec F S1153x1153 .f32) : k0_pay2 w = w := by
  unfold k0_pay2
  exact shapeCast_self _ _

/-! ## The payloads in this vocabulary -/

section Pay
variable (x0 : Vec F S1153x1024 .f32) (w : Vec F S1153x1153 .f32) (P : FVec F S1153x1024 .f32) (X : Vec F S1153x8 .f32) (W : Vec F S1x1153 .f32) (M L : Elt F .f32) (I : IVec S1x1024 32)

theorem pay_sc0 : k0_pay12 x0 w X W = sc (k0_pay11 x0 w) X W 0 := by
  unfold k0_pay12 sc
  rw [← col_slice X 0 slices_S1153x8_o0_0_S1153x1]
  rfl

theorem pay_mx0 : k0_pay13 x0 w X W = mx (sc (k0_pay11 x0 w) X W 0) := by
  unfold k0_pay13
  rw [pay_sc0]
  rfl

theorem pay_ag0 : extractAt ![0, 0, 0] (k0_pay14 x0 w X W) inpos_S1x1x1_p0_0_0 = agI lanes (sc (k0_pay11 x0 w) X W 0) := by
  unfold k0_pay14
  rw [pay_sc0, pay_mx0]
  rfl

theorem pay_sm0 : k0_pay15 x0 w X W = sm (sc (k0_pay11 x0 w) X W 0) := by
  unfold k0_pay15
  rw [pay_sc0, pay_mx0]
  rfl

theorem pay_sc1 : k0_pay18 P X W = sc P X W 1 := by
  unfold k0_pay18 sc
  rw [← col_slice X 1 slices_S1153x8_o0_1_S1153x1]
  rfl

theorem pay_mx1 : k0_pay19 P X W = mx (sc P X W 1) := by
  unfold k0_pay19
  rw [pay_sc1]
  rfl

theorem pay_ag1 : extractAt ![0, 0, 0] (k0_pay20 P X W I) inpos_S1x1x1_p0_0_0 = agI I (sc P X W 1) := by
  unfold k0_pay20
  rw [pay_sc1, pay_mx1]
  rfl

theorem pay_sm1 : k0_pay21 P X W = sm (sc P X W 1) := by
  unfold k0_pay21
  rw [pay_sc1, pay_mx1]
  rfl

theorem pay_sc2 : k0_pay25 P X W = sc P X W 2 := by
  unfold k0_pay25 sc
  rw [← col_slice X 2 slices_S1153x8_o0_2_S1153x1]
  rfl

theorem pay_mx2 : k0_pay26 P X W = mx (sc P X W 2) := by
  unfold k0_pay26
  rw [pay_sc2]
  rfl

theorem pay_ag2 : extractAt ![0, 0, 0] (k0_pay27 P X W I) inpos_S1x1x1_p0_0_0 = agI I (sc P X W 2) := by
  unfold k0_pay27
  rw [pay_sc2, pay_mx2]
  rfl

theorem pay_sm2 : k0_pay28 P X W = sm (sc P X W 2) := by
  unfold k0_pay28
  rw [pay_sc2, pay_mx2]
  rfl

theorem pay_sc3 : k0_pay33 P X W = sc P X W 3 := by
  unfold k0_pay33 sc
  rw [← col_slice X 3 slices_S1153x8_o0_3_S1153x1]
  rfl

theorem pay_mx3 : k0_pay34 P X W = mx (sc P X W 3) := by
  unfold k0_pay34
  rw [pay_sc3]
  rfl

theorem pay_ag3 : extractAt ![0, 0, 0] (k0_pay35 P X W I) inpos_S1x1x1_p0_0_0 = agI I (sc P X W 3) := by
  unfold k0_pay35
  rw [pay_sc3, pay_mx3]
  rfl

theorem pay_nmax3 : k0_pay36 P X W M = nmax (sc P X W 3) M := by
  unfold k0_pay36
  rw [pay_mx3]
  rfl

theorem pay_nsum3 : k0_pay37 P X W M L = nsum (sc P X W 3) M L := by
  unfold k0_pay37
  rw [pay_sc3, pay_mx3, pay_nmax3]
  rfl

theorem pay_sc4 : k0_pay38 P X W = sc P X W 4 := by
  unfold k0_pay38 sc
  rw [← col_slice X 4 slices_S1153x8_o0_4_S1153x1]
  rfl

theorem pay_mx4 : k0_pay39 P X W = mx (sc P X W 4) := by
  unfold k0_pay39
  rw [pay_sc4]
  rfl

theorem pay_ag4 : extractAt ![0, 0, 0] (k0_pay40 P X W I) inpos_S1x1x1_p0_0_0 = agI I (sc P X W 4) := by
  unfold k0_pay40
  rw [pay_sc4, pay_mx4]
  rfl

theorem pay_nmax4 : k0_pay41 P X W M = nmax (sc P X W 4) M := by
  unfold k0_pay41
  rw [pay_mx4]
  rfl

theorem pay_nsum4 : k0_pay42 P X W M L = nsum (sc P X W 4) M L := by
  unfold k0_pay42
  rw [pay_sc4, pay_mx4, pay_nmax4]
  rfl

theorem pay_sc5 : k0_pay43 P X W = sc P X W 5 := by
  unfold k0_pay43 sc
  rw [← col_slice X 5 slices_S1153x8_o0_5_S1153x1]
  rfl

theorem pay_mx5 : k0_pay44 P X W = mx (sc P X W 5) := by
  unfold k0_pay44
  rw [pay_sc5]
  rfl

theorem pay_ag5 : extractAt ![0, 0, 0] (k0_pay45 P X W I) inpos_S1x1x1_p0_0_0 = agI I (sc P X W 5) := by
  unfold k0_pay45
  rw [pay_sc5, pay_mx5]
  rfl

theorem pay_nmax5 : k0_pay46 P X W M = nmax (sc P X W 5) M := by
  unfold k0_pay46
  rw [pay_mx5]
  rfl

theorem pay_nsum5 : k0_pay47 P X W M L = nsum (sc P X W 5) M L := by
  unfold k0_pay47
  rw [pay_sc5, pay_mx5, pay_nmax5]
  rfl

theorem pay_sc6 : k0_pay48 P X W = sc P X W 6 := by
  unfold k0_pay48 sc
  rw [← col_slice X 6 slices_S1153x8_o0_6_S1153x1]
  rfl

theorem pay_mx6 : k0_pay49 P X W = mx (sc P X W 6) := by
  unfold k0_pay49
  rw [pay_sc6]
  rfl

theorem pay_ag6 : extractAt ![0, 0, 0] (k0_pay50 P X W I) inpos_S1x1x1_p0_0_0 = agI I (sc P X W 6) := by
  unfold k0_pay50
  rw [pay_sc6, pay_mx6]
  rfl

theorem pay_nmax6 : k0_pay51 P X W M = nmax (sc P X W 6) M := by
  unfold k0_pay51
  rw [pay_mx6]
  rfl

theorem pay_nsum6 : k0_pay52 P X W M L = nsum (sc P X W 6) M L := by
  unfold k0_pay52
  rw [pay_sc6, pay_mx6, pay_nmax6]
  rfl

theorem pay_sc7 : k0_pay53 P X W = sc P X W 7 := by
  unfold k0_pay53 sc
  rw [← col_slice X 7 slices_S1153x8_o0_7_S1153x1]
  rfl

theorem pay_mx7 : k0_pay54 P X W = mx (sc P X W 7) := by
  unfold k0_pay54
  rw [pay_sc7]
  rfl

theorem pay_ag7 : extractAt ![0, 0, 0] (k0_pay55 P X W I) inpos_S1x1x1_p0_0_0 = agI I (sc P X W 7) := by
  unfold k0_pay55
  rw [pay_sc7, pay_mx7]
  rfl

theorem pay_nmax7 : k0_pay56 P X W M = nmax (sc P X W 7) M := by
  unfold k0_pay56
  rw [pay_mx7]
  rfl

theorem pay_nsum7 : k0_pay57 P X W M L = nsum (sc P X W 7) M L := by
  unfold k0_pay57
  rw [pay_sc7, pay_mx7, pay_nmax7]
  rfl

theorem pay_nmax0 : k0_pay16 (mx (sc (k0_pay11 x0 w) X W 0)) M = nmax (sc (k0_pay11 x0 w) X W 0) M := rfl

theorem pay_nsum0 : k0_pay17 (mx (sc (k0_pay11 x0 w) X W 0)) (sm (sc (k0_pay11 x0 w) X W 0)) M L = nsum (sc (k0_pay11 x0 w) X W 0) M L := rfl

theorem pay_nmax1 : k0_pay22 P X W M = nmax (sc P X W 1) M := by
  unfold k0_pay22
  rw [pay_mx1]
  rfl

theorem pay_ex1 : k0_pay23 P X W M = Scalar.exp (Scalar.subf M (nmax (sc P X W 1) M)) := by
  unfold k0_pay23
  rw [pay_nmax1]

theorem pay_nsum1 : k0_pay24 (mx (sc P X W 1)) (sm (sc P X W 1)) L (nmax (sc P X W 1) M) (Scalar.exp (Scalar.subf M (nmax (sc P X W 1) M))) = nsum (sc P X W 1) M L := rfl

theorem pay_nmax2 : k0_pay29 P X W M = nmax (sc P X W 2) M := by
  unfold k0_pay29
  rw [pay_mx2]
  rfl

theorem pay_ol2 : k0_pay30 P X W M L = Scalar.mulf L (Scalar.exp (Scalar.subf M (nmax (sc P X W 2) M))) := by
  unfold k0_pay30
  rw [pay_nmax2]

theorem pay_ex2 : k0_pay31 P X W M = Scalar.exp (Scalar.subf (mx (sc P X W 2)) (nmax (sc P X W 2) M)) := by
  unfold k0_pay31
  rw [pay_mx2, pay_nmax2]

theorem pay_nsum2 : k0_pay32 (sm (sc P X W 2)) (Scalar.mulf L (Scalar.exp (Scalar.subf M (nmax (sc P X W 2) M)))) (Scalar.exp (Scalar.subf (mx (sc P X W 2)) (nmax (sc P X W 2) M))) = nsum (sc P X W 2) M L := rfl

end Pay

theorem narg_fold (n : ℕ) (I : IVec S1x1024 32) (s : FVec F S1x1024 .f32) (M : Elt F .f32) (A : BitVec 32) :
    Scalar.select (Scalar.cmpf .ogt (mx s) M) (Scalar.addi (Scalar.muli (BitVec.ofNat 32 n) 1024#32) (agI I s)) A = nargI n I s M A := rfl

theorem narg_ld (b : ℕ) (hb : b < 8) (h) (n : ℕ) (I : IVec S1x1024 32) (s : FVec F S1x1024 .f32) (M : Vec F S8 .f32) (A : Vec F S8 .i32) (x x') :
    nargI n I s (View.ld (Val := Elt F) (e' := .f32) M (Rect.unit (s := S8) ![b] ![1] h) x)
      (View.ld (Val := Elt F) (e' := .i32) A (Rect.unit (s := S8) ![b] ![1] h) x') = nargI n I s (M (at8 b hb)) (A (at8 b hb)) := by
  rw [ld8 b hb h M x, ld8 b hb h A x']

theorem nsum_ld (b : ℕ) (hb : b < 8) (h) (s : FVec F S1x1024 .f32) (M L : Vec F S8 .f32) (x x') :
    nsum s (View.ld (Val := Elt F) (e' := .f32) M (Rect.unit (s := S8) ![b] ![1] h) x)
      (View.ld (Val := Elt F) (e' := .f32) L (Rect.unit (s := S8) ![b] ![1] h) x') = nsum s (M (at8 b hb)) (L (at8 b hb)) := by
  rw [ld8 b hb h M x, ld8 b hb h L x']

/-- The one position of a 1 by 1 array. -/
def at11 : S1x1.Idx := fun a => match a with
  | ⟨0, _⟩ => (⟨0, by decide⟩ : Fin 1)
  | ⟨1, _⟩ => (⟨0, by decide⟩ : Fin 1)

theorem pay_t (x0 : Vec F S1153x1024 .f32) : k0_pay10 x0 = x0 := by
  unfold k0_pay10
  exact shapeCast_self _ _

/-- The sixteen lanes' numbers. -/
def lanes16 : IVec S1x16 32 := iota .tc S1x16 32 [1] iota_S1x16_d1_w32

/-- The joined integer row: lanes 0 to 7 the indices, lanes 8 to 15 whether the reciprocal of the sum is above the threshold. -/
def metaOf (thr : Elt F .f32) (I : IVec S1x16 32) (L : S8.Idx → Elt F .f32) (A : S8.Idx → BitVec 32) : IVec S1x16 32 :=
  k0_pay1 thr I (Scalar.cmpf .ogt (k0_pay7 (L (at8 6 (by decide)))) thr) (k0_pay8 thr I (k0_pay4 thr I (k0_pay3 thr (L (at8 0 (by decide))) (A (at8 0 (by decide))) (L (at8 1 (by decide))) (A (at8 1 (by decide)))) (L (at8 2 (by decide))) (A (at8 2 (by decide))) (L (at8 3 (by decide))) (A (at8 3 (by decide))))
    (Scalar.cmpf .ogt (k0_pay5 (L (at8 4 (by decide)))) thr) (k0_pay6 I) (A (at8 4 (by decide))) (L (at8 5 (by decide))) (A (at8 5 (by decide))) (A (at8 6 (by decide)))) (k0_pay9 I) (L (at8 7 (by decide))) (A (at8 7 (by decide)))

theorem metaOf_congr {thr thr' : Elt F .f32} {I : IVec S1x16 32} (L : S8.Idx → Elt F .f32) (A : S8.Idx → BitVec 32)
    {L0 L1 L2 L3 L4 L5 L6 L7 : Elt F .f32} {A0 A1 A2 A3 A4 A5 A6 A7 : BitVec 32} (ht : thr = thr')
    (hL0 : L0 = L (at8 0 (by decide))) (hL1 : L1 = L (at8 1 (by decide))) (hL2 : L2 = L (at8 2 (by decide))) (hL3 : L3 = L (at8 3 (by decide))) (hL4 : L4 = L (at8 4 (by decide))) (hL5 : L5 = L (at8 5 (by decide))) (hL6 : L6 = L (at8 6 (by decide))) (hL7 : L7 = L (at8 7 (by decide)))
    (hA0 : A0 = A (at8 0 (by decide))) (hA1 : A1 = A (at8 1 (by decide))) (hA2 : A2 = A (at8 2 (by decide))) (hA3 : A3 = A (at8 3 (by decide))) (hA4 : A4 = A (at8 4 (by decide))) (hA5 : A5 = A (at8 5 (by decide))) (hA6 : A6 = A (at8 6 (by decide))) (hA7 : A7 = A (at8 7 (by decide))) :
    k0_pay1 thr I (Scalar.cmpf .ogt (k0_pay7 L6) thr) (k0_pay8 thr I (k0_pay4 thr I (k0_pay3 thr L0 A0 L1 A1) L2 A2 L3 A3)
    (Scalar.cmpf .ogt (k0_pay5 L4) thr) (k0_pay6 I) A4 L5 A5 A6) (k0_pay9 I) L7 A7
      = metaOf thr' I L A := by
  subst ht hL0 hL1 hL2 hL3 hL4 hL5 hL6 hL7 hA0 hA1 hA2 hA3 hA4 hA5 hA6 hA7
  rfl

theorem hz2 : (![0, 0] : Fin 2 → ℕ) = fun _ => 0 := funext fun a => by fin_cases a <;> rfl

end Cert.KernelIdeal.Step
-- ==== Proof.Cases.lean ====
/-
  What each case of a grid point leaves in the scratch, in the vocabulary of `Step`.
-/
module

public import proofs.«01_k».proof.Proof.Step

@[expose] public section

noncomputable section

namespace Cert.KernelIdeal.Step

open Cert.KernelIdeal Cert.KernelIdeal.Gen Idealize.ShloMosaic Idealize.ShloMosaic.TcCoe Idealize.SL.Sem

variable {F : FTy → Type} [FloatOps F] [Named F]

theorem sout0_B_1_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : ¬cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = fun y => nmax (sc (k0_pay11 x0 xs0) x2 x4 (bi y)) (xs1 y) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .f32) (fun y : S8.Idx => (nmax (sc (k0_pay11 x0 xs0) x2 x4 (bi y)) (xs1 y) : Elt F .f32)) _ _ _ _ _ _ _ _ _ ?_ ?_ ?_ ?_ ?_ ?_ ?_ ?_
  · exact (congrArg (nmax (sc (k0_pay11 x0 xs0) x2 x4 0)) (ld8 0 (by decide) _ xs1 _))
  · exact (congrArg (nmax (sc (k0_pay11 x0 xs0) x2 x4 1)) (ld8 1 (by decide) _ xs1 _))
  · exact (congrArg (nmax (sc (k0_pay11 x0 xs0) x2 x4 2)) (ld8 2 (by decide) _ xs1 _))
  · exact (congrArg (nmax (sc (k0_pay11 x0 xs0) x2 x4 3)) (ld8 3 (by decide) _ xs1 _))
  · exact (congrArg (nmax (sc (k0_pay11 x0 xs0) x2 x4 4)) (ld8 4 (by decide) _ xs1 _))
  · exact (congrArg (nmax (sc (k0_pay11 x0 xs0) x2 x4 5)) (ld8 5 (by decide) _ xs1 _))
  · exact (congrArg (nmax (sc (k0_pay11 x0 xs0) x2 x4 6)) (ld8 6 (by decide) _ xs1 _))
  · exact (congrArg (nmax (sc (k0_pay11 x0 xs0) x2 x4 7)) (ld8 7 (by decide) _ xs1 _))

theorem sout0_B_2_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : ¬cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    sout0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = fun y => nsum (sc (k0_pay11 x0 xs0) x2 x4 (bi y)) (xs1 y) (xs2 y) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .f32) (fun y : S8.Idx => (nsum (sc (k0_pay11 x0 xs0) x2 x4 (bi y)) (xs1 y) (xs2 y) : Elt F .f32)) _ _ _ _ _ _ _ _ _ ?_ ?_ ?_ ?_ ?_ ?_ ?_ ?_
  · exact (congrArg₂ (nsum (sc (k0_pay11 x0 xs0) x2 x4 0)) (ld8 0 (by decide) _ xs1 _) (ld8 0 (by decide) _ xs2 _))
  · exact (congrArg₂ (nsum (sc (k0_pay11 x0 xs0) x2 x4 1)) (ld8 1 (by decide) _ xs1 _) (ld8 1 (by decide) _ xs2 _))
  · exact (congrArg₂ (nsum (sc (k0_pay11 x0 xs0) x2 x4 2)) (ld8 2 (by decide) _ xs1 _) (ld8 2 (by decide) _ xs2 _))
  · exact (congrArg₂ (nsum (sc (k0_pay11 x0 xs0) x2 x4 3)) (ld8 3 (by decide) _ xs1 _) (ld8 3 (by decide) _ xs2 _))
  · exact (congrArg₂ (nsum (sc (k0_pay11 x0 xs0) x2 x4 4)) (ld8 4 (by decide) _ xs1 _) (ld8 4 (by decide) _ xs2 _))
  · exact (congrArg₂ (nsum (sc (k0_pay11 x0 xs0) x2 x4 5)) (ld8 5 (by decide) _ xs1 _) (ld8 5 (by decide) _ xs2 _))
  · exact (congrArg₂ (nsum (sc (k0_pay11 x0 xs0) x2 x4 6)) (ld8 6 (by decide) _ xs1 _) (ld8 6 (by decide) _ xs2 _))
  · exact (congrArg₂ (nsum (sc (k0_pay11 x0 xs0) x2 x4 7)) (ld8 7 (by decide) _ xs1 _) (ld8 7 (by decide) _ xs2 _))

theorem sout0_B_3_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : ¬cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    sout0_B_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = fun y => nargI (i 0).val lanes (sc (k0_pay11 x0 xs0) x2 x4 (bi y)) (xs1 y) (xs3 y) := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .i32) (fun y : S8.Idx => (nargI (i 0).val lanes (sc (k0_pay11 x0 xs0) x2 x4 (bi y)) (xs1 y) (xs3 y) : Elt F .i32)) _ _ _ _ _ _ _ _ _ ?_ ?_ ?_ ?_ ?_ ?_ ?_ ?_
  · exact (narg_ld 0 (by decide) _ _ _ _ xs1 xs3 _ _)
  · exact (narg_ld 1 (by decide) _ _ _ _ xs1 xs3 _ _)
  · exact (narg_ld 2 (by decide) _ _ _ _ xs1 xs3 _ _)
  · exact (narg_ld 3 (by decide) _ _ _ _ xs1 xs3 _ _)
  · exact (narg_ld 4 (by decide) _ _ _ _ xs1 xs3 _ _)
  · exact (narg_ld 5 (by decide) _ _ _ _ xs1 xs3 _ _)
  · exact (narg_ld 6 (by decide) _ _ _ _ xs1 xs3 _ _)
  · exact (narg_ld 7 (by decide) _ _ _ _ xs1 xs3 _ _)

theorem sout0_C_1_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = fun y => nmax (sc (k0_pay11 x0 xs0) x2 x4 (bi y)) (xs1 y) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .f32) (fun y : S8.Idx => (nmax (sc (k0_pay11 x0 xs0) x2 x4 (bi y)) (xs1 y) : Elt F .f32)) _ _ _ _ _ _ _ _ _ ?_ ?_ ?_ ?_ ?_ ?_ ?_ ?_
  · exact (congrArg (nmax (sc (k0_pay11 x0 xs0) x2 x4 0)) (ld8 0 (by decide) _ xs1 _))
  · exact (congrArg (nmax (sc (k0_pay11 x0 xs0) x2 x4 1)) (ld8 1 (by decide) _ xs1 _))
  · exact (congrArg (nmax (sc (k0_pay11 x0 xs0) x2 x4 2)) (ld8 2 (by decide) _ xs1 _))
  · exact (congrArg (nmax (sc (k0_pay11 x0 xs0) x2 x4 3)) (ld8 3 (by decide) _ xs1 _))
  · exact (congrArg (nmax (sc (k0_pay11 x0 xs0) x2 x4 4)) (ld8 4 (by decide) _ xs1 _))
  · exact (congrArg (nmax (sc (k0_pay11 x0 xs0) x2 x4 5)) (ld8 5 (by decide) _ xs1 _))
  · exact (congrArg (nmax (sc (k0_pay11 x0 xs0) x2 x4 6)) (ld8 6 (by decide) _ xs1 _))
  · exact (congrArg (nmax (sc (k0_pay11 x0 xs0) x2 x4 7)) (ld8 7 (by decide) _ xs1 _))

theorem sout0_C_2_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    sout0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = fun y => nsum (sc (k0_pay11 x0 xs0) x2 x4 (bi y)) (xs1 y) (xs2 y) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .f32) (fun y : S8.Idx => (nsum (sc (k0_pay11 x0 xs0) x2 x4 (bi y)) (xs1 y) (xs2 y) : Elt F .f32)) _ _ _ _ _ _ _ _ _ ?_ ?_ ?_ ?_ ?_ ?_ ?_ ?_
  · exact (congrArg₂ (nsum (sc (k0_pay11 x0 xs0) x2 x4 0)) (ld8 0 (by decide) _ xs1 _) (ld8 0 (by decide) _ xs2 _))
  · exact (congrArg₂ (nsum (sc (k0_pay11 x0 xs0) x2 x4 1)) (ld8 1 (by decide) _ xs1 _) (ld8 1 (by decide) _ xs2 _))
  · exact (congrArg₂ (nsum (sc (k0_pay11 x0 xs0) x2 x4 2)) (ld8 2 (by decide) _ xs1 _) (ld8 2 (by decide) _ xs2 _))
  · exact (congrArg₂ (nsum (sc (k0_pay11 x0 xs0) x2 x4 3)) (ld8 3 (by decide) _ xs1 _) (ld8 3 (by decide) _ xs2 _))
  · exact (congrArg₂ (nsum (sc (k0_pay11 x0 xs0) x2 x4 4)) (ld8 4 (by decide) _ xs1 _) (ld8 4 (by decide) _ xs2 _))
  · exact (congrArg₂ (nsum (sc (k0_pay11 x0 xs0) x2 x4 5)) (ld8 5 (by decide) _ xs1 _) (ld8 5 (by decide) _ xs2 _))
  · exact (congrArg₂ (nsum (sc (k0_pay11 x0 xs0) x2 x4 6)) (ld8 6 (by decide) _ xs1 _) (ld8 6 (by decide) _ xs2 _))
  · exact (congrArg₂ (nsum (sc (k0_pay11 x0 xs0) x2 x4 7)) (ld8 7 (by decide) _ xs1 _) (ld8 7 (by decide) _ xs2 _))

theorem sout0_C_3_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    sout0_C_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = fun y => nargI (i 0).val lanes (sc (k0_pay11 x0 xs0) x2 x4 (bi y)) (xs1 y) (xs3 y) := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .i32) (fun y : S8.Idx => (nargI (i 0).val lanes (sc (k0_pay11 x0 xs0) x2 x4 (bi y)) (xs1 y) (xs3 y) : Elt F .i32)) _ _ _ _ _ _ _ _ _ ?_ ?_ ?_ ?_ ?_ ?_ ?_ ?_
  · exact (narg_ld 0 (by decide) _ _ _ _ xs1 xs3 _ _)
  · exact (narg_ld 1 (by decide) _ _ _ _ xs1 xs3 _ _)
  · exact (narg_ld 2 (by decide) _ _ _ _ xs1 xs3 _ _)
  · exact (narg_ld 3 (by decide) _ _ _ _ xs1 xs3 _ _)
  · exact (narg_ld 4 (by decide) _ _ _ _ xs1 xs3 _ _)
  · exact (narg_ld 5 (by decide) _ _ _ _ xs1 xs3 _ _)
  · exact (narg_ld 6 (by decide) _ _ _ _ xs1 xs3 _ _)
  · exact (narg_ld 7 (by decide) _ _ _ _ xs1 xs3 _ _)

theorem sout0_A_1_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : cond0_0 i) (hc1 : ¬cond0_1 i) (x0 : Vec F S1153x1024 .f32) (x1 : Vec F S1153x2306 .f32) (x2 : Vec F S1153x8 .f32) (x3 : Vec F S1x1 .f32) (x4 : Vec F S1x1153 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 = fun y => nmax (sc (k0_pay11 x0 (View.ld x1 (Rect.unit ![0, 1153] ![1153, 1153] inb_S1153x2306_S1153x1153_0_1153))) x2 x4 (bi y)) (Named.named κ "mask" 0xF149F2CA#32) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, View.readCov_unit_zero (S := S1153x1153) _ hz2, pay_w, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .f32) (fun y : S8.Idx => (nmax (sc (k0_pay11 x0 (View.ld x1 (Rect.unit ![0, 1153] ![1153, 1153] inb_S1153x2306_S1153x1153_0_1153))) x2 x4 (bi y)) (Named.named κ "mask" 0xF149F2CA#32) : Elt F .f32)) _ _ _ _ _ _ _ _ _ ?_ ?_ ?_ ?_ ?_ ?_ ?_ ?_
  · exact rfl
  · exact rfl
  · exact rfl
  · exact rfl
  · exact rfl
  · exact rfl
  · exact rfl
  · exact rfl

theorem sout0_A_2_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : cond0_0 i) (hc1 : ¬cond0_1 i) (x0 : Vec F S1153x1024 .f32) (x1 : Vec F S1153x2306 .f32) (x2 : Vec F S1153x8 .f32) (x3 : Vec F S1x1 .f32) (x4 : Vec F S1x1153 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 x4 = fun y => nsum (sc (k0_pay11 x0 (View.ld x1 (Rect.unit ![0, 1153] ![1153, 1153] inb_S1153x2306_S1153x1153_0_1153))) x2 x4 (bi y)) (Named.named κ "mask" 0xF149F2CA#32) (Scalar.ofBits .f32 0x00000000#32) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, View.readCov_unit_zero (S := S1153x1153) _ hz2, pay_w, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .f32) (fun y : S8.Idx => (nsum (sc (k0_pay11 x0 (View.ld x1 (Rect.unit ![0, 1153] ![1153, 1153] inb_S1153x2306_S1153x1153_0_1153))) x2 x4 (bi y)) (Named.named κ "mask" 0xF149F2CA#32) (Scalar.ofBits .f32 0x00000000#32) : Elt F .f32)) _ _ _ _ _ _ _ _ _ ?_ ?_ ?_ ?_ ?_ ?_ ?_ ?_
  · exact rfl
  · exact rfl
  · exact rfl
  · exact rfl
  · exact rfl
  · exact rfl
  · exact rfl
  · exact rfl

theorem sout0_A_3_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : cond0_0 i) (hc1 : ¬cond0_1 i) (x0 : Vec F S1153x1024 .f32) (x1 : Vec F S1153x2306 .f32) (x2 : Vec F S1153x8 .f32) (x3 : Vec F S1x1 .f32) (x4 : Vec F S1x1153 .f32) :
    sout0_A_3 c i arg1 harg1 arg2 harg2 arg3 harg3 arg4 harg4 arg5 harg5 arg6 harg6 arg7 harg7 arg8 harg8 arg9 harg9 arg10 harg10 arg11 harg11 hc0 hc1 x0 x1 x2 x3 x4 = fun y => nargI (i 0).val lanes (sc (k0_pay11 x0 (View.ld x1 (Rect.unit ![0, 1153] ![1153, 1153] inb_S1153x2306_S1153x1153_0_1153))) x2 x4 (bi y)) (Named.named κ "mask" 0xF149F2CA#32) 0#32 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, View.readCov_unit_zero (S := S1153x1153) _ hz2, pay_w, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold]
  refine pieces8 (e := .i32) (fun y : S8.Idx => (nargI (i 0).val lanes (sc (k0_pay11 x0 (View.ld x1 (Rect.unit ![0, 1153] ![1153, 1153] inb_S1153x2306_S1153x1153_0_1153))) x2 x4 (bi y)) (Named.named κ "mask" 0xF149F2CA#32) 0#32 : Elt F .i32)) _ _ _ _ _ _ _ _ _ ?_ ?_ ?_ ?_ ?_ ?_ ?_ ?_
  · exact rfl
  · exact rfl
  · exact rfl
  · exact rfl
  · exact rfl
  · exact rfl
  · exact rfl
  · exact rfl

theorem sout0_A_0_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : cond0_0 i) (hc1 : ¬cond0_1 i) (x0 : Vec F S1153x1024 .f32) (x1 : Vec F S1153x2306 .f32) (x2 : Vec F S1153x8 .f32) (x3 : Vec F S1x1 .f32) (x4 : Vec F S1x1153 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 = View.ld x1 (Rect.unit ![0, 1153] ![1153, 1153] inb_S1153x2306_S1153x1153_0_1153) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_w, pay_t, View.canon_unit_zero (S := S1153x1024) hz2, View.canon_unit_zero (S := S1153x1153) hz2]

theorem out0_A_5_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : cond0_0 i) (hc1 : ¬cond0_1 i) (x0 : Vec F S1153x1024 .f32) (x1 : Vec F S1153x2306 .f32) (x2 : Vec F S1153x8 .f32) (x3 : Vec F S1x1 .f32) (x4 : Vec F S1x1153 .f32) :
    out0_A_5 c i arg1 harg1 arg2 harg2 arg3 harg3 arg4 harg4 arg5 harg5 arg6 harg6 arg7 harg7 arg8 harg8 arg9 harg9 arg10 harg10 arg11 harg11 hc0 hc1 x0 x1 x2 x3 x4 = x0 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_w, pay_t, View.canon_unit_zero (S := S1153x1024) hz2, View.canon_unit_zero (S := S1153x1153) hz2]

theorem out0_B_5_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : ¬cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    out0_B_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = x0 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_w, pay_t, View.canon_unit_zero (S := S1153x1024) hz2, View.canon_unit_zero (S := S1153x1153) hz2]

theorem out0_C_5_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    out0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = x0 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_w, pay_t, View.canon_unit_zero (S := S1153x1024) hz2, View.canon_unit_zero (S := S1153x1153) hz2]

theorem out0_C_6_eq (c : Dev nD) (i : grid0.Coords) (arg1 : Memref sig .tc .vmem S1153x1024 .f32) (harg1 : arg1.IsWhole) (arg2 : Memref sig .tc .vmem S1153x2306 .f32) (harg2 : arg2.IsWhole) (arg3 : Memref sig .tc .vmem S1153x8 .f32) (harg3 : arg3.IsWhole) (arg4 : Memref sig .tc .smem S1x1 .f32) (harg4 : arg4.IsWhole) (arg5 : Memref sig .tc .vmem S1x1153 .f32) (harg5 : arg5.IsWhole) (arg6 : Memref sig .tc .vmem S1153x1024 .f32) (harg6 : arg6.IsWhole) (arg7 : Memref sig .tc .vmem S1x16 .i32) (harg7 : arg7.IsWhole) (arg8 : Memref sig .tc .vmem S1153x1153 .f32) (harg8 : arg8.IsWhole) (arg9 : Memref sig .tc .smem S8 .f32) (harg9 : arg9.IsWhole) (arg10 : Memref sig .tc .smem S8 .f32) (harg10 : arg10.IsWhole) (arg11 : Memref sig .tc .smem S8 .i32) (harg11 : arg11.IsWhole) (hc0 : ¬cond0_0 i) (hc1 : cond0_1 i) (x0 : Vec F S1153x1024 .f32) (x1 : Vec F S1153x2306 .f32) (x2 : Vec F S1153x8 .f32) (x3 : Vec F S1x1 .f32) (x4 : Vec F S1x1153 .f32) (xs0 : Vec F S1153x1153 .f32) (xs1 : Vec F S8 .f32) (xs2 : Vec F S8 .f32) (xs3 : Vec F S8 .i32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3 = metaOf (x3 at11) lanes16 (fun y => nsum (sc (k0_pay11 x0 xs0) x2 x4 (bi y)) (xs1 y) (xs2 y))
      (fun y => nargI (i 0).val lanes (sc (k0_pay11 x0 xs0) x2 x4 (bi y)) (xs1 y) (xs3 y)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1153x1024) hz2, View.ld_unit_zero (S := S1153x1153) hz2, View.ld_unit_zero (S := S1153x8) hz2, View.ld_unit_zero (S := S1x1153) hz2, View.ld_unit_zero (S := S1x1) hz2, pay_sc0, pay_mx0, pay_ag0, pay_sm0, pay_sc1, pay_mx1, pay_ag1, pay_sm1, pay_sc2, pay_mx2, pay_ag2, pay_sm2, pay_sc3, pay_mx3, pay_ag3, pay_nmax3, pay_nsum3, pay_sc4, pay_mx4, pay_ag4, pay_nmax4, pay_nsum4, pay_sc5, pay_mx5, pay_ag5, pay_nmax5, pay_nsum5, pay_sc6, pay_mx6, pay_ag6, pay_nmax6, pay_nsum6, pay_sc7, pay_mx7, pay_ag7, pay_nmax7, pay_nsum7, pay_nmax0, pay_nsum0, pay_nmax1, pay_ex1, pay_nsum1, pay_nmax2, pay_ol2, pay_ex2, pay_nsum2, narg_fold, View.canon_unit_zero (S := S1x16) hz2]
  refine metaOf_congr (fun y : S8.Idx => (nsum (sc (k0_pay11 x0 xs0) x2 x4 (bi y)) (xs1 y) (xs2 y) : Elt F .f32)) (fun y : S8.Idx => (nargI (i 0).val lanes (sc (k0_pay11 x0 xs0) x2 x4 (bi y)) (xs1 y) (xs3 y) : BitVec 32)) ?_ ?_ ?_ ?_ ?_ ?_ ?_ ?_ ?_ ?_ ?_ ?_ ?_ ?_ ?_ ?_ ?_
  · exact congrArg x3 (funext fun a => Fin.ext (by match a with | ⟨0, _⟩ => rfl | ⟨1, _⟩ => rfl))
  · exact nsum_ld 0 (by decide) _ _ xs1 xs2 _ _
  · exact nsum_ld 1 (by decide) _ _ xs1 xs2 _ _
  · exact nsum_ld 2 (by decide) _ _ xs1 xs2 _ _
  · exact nsum_ld 3 (by decide) _ _ xs1 xs2 _ _
  · exact nsum_ld 4 (by decide) _ _ xs1 xs2 _ _
  · exact nsum_ld 5 (by decide) _ _ xs1 xs2 _ _
  · exact nsum_ld 6 (by decide) _ _ xs1 xs2 _ _
  · exact nsum_ld 7 (by decide) _ _ xs1 xs2 _ _
  · exact narg_ld 0 (by decide) _ _ _ _ xs1 xs3 _ _
  · exact narg_ld 1 (by decide) _ _ _ _ xs1 xs3 _ _
  · exact narg_ld 2 (by decide) _ _ _ _ xs1 xs3 _ _
  · exact narg_ld 3 (by decide) _ _ _ _ xs1 xs3 _ _
  · exact narg_ld 4 (by decide) _ _ _ _ xs1 xs3 _ _
  · exact narg_ld 5 (by decide) _ _ _ _ xs1 xs3 _ _
  · exact narg_ld 6 (by decide) _ _ _ _ xs1 xs3 _ _
  · exact narg_ld 7 (by decide) _ _ _ _ xs1 xs3 _ _

end Cert.KernelIdeal.Step
-- ==== Proof.Blocks.lean ====
/-
  What the windows of the score kernel hold: at grid point `t` the first window is the memory table's rows `1024 t` to `1024 t + 1023`,
  transposed; the others are the whole arrays.
-/
module

public import proofs.«01_k».proof.Proof.Cases
public import Idealize.ShloMosaic.Lib.ValueLayoutCasts
public import Idealize.ShloMosaic.Lib.Claim

@[expose] public section

noncomputable section

namespace Cert.KernelIdeal.Step

open Cert.KernelIdeal Cert.KernelIdeal.Gen Idealize.ShloMosaic Idealize.ShloMosaic.TcCoe Idealize.SL.Sem Idealize.ShloMosaic.ValueIdx

variable {F : FTy → Type} [FloatOps F] [Named F]
variable (m : (ℓ : Loc nD τ sig) → Buf (Elt F) ℓ) (c : Dev nD)

/-- The memory table, the first layer's weights, the hidden layer's input part, the second layer's weights, the threshold. -/
abbrev aMem : FVec F S8192x1153 .f32 := m ((c : Thread nD τ).loc main_arg0)
abbrev aW1 : FVec F S1153x2306 .f32 := m ((c : Thread nD τ).loc main_arg1)
abbrev aX : FVec F S1153x8 .f32 := m ((c : Thread nD τ).loc main_arg2)
abbrev aW2 : FVec F S1x1153 .f32 := m ((c : Thread nD τ).loc main_arg3)
abbrev aThr : FVec F S_ .f32 := m ((c : Thread nD τ).loc main_arg5)

theorem V_v1 : V m c main_v1 = transpose S1153x8192 [1, 0] (aMem m c) transposes_S8192x1153_S1153x8192_1_0 := by
  entry_read
  rfl

theorem V_v0 : V m c main_v0 = shapeCast S1x1 (aThr m c) shapeCasts_S_S1x1 := by
  entry_read
  rfl

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem grid_val : ∀ t : Fin cfg0.N, ((grid0.coords t) 0).val = t.val :=
  (by decide +kernel : ∀ t : Fin grid0.N, _)

/-- A row number of the memory table at grid point `t`. -/
def rowOf (t : Fin cfg0.N) (j : Fin 1024) : Fin 8192 :=
  ⟨1024 * t.val + j.val, by have := t.isLt; have hN : cfg0.N = 8 := N_0; have := j.isLt; omega⟩

theorem blk0 (t : Fin cfg0.N) (r : Fin 1153) (j : Fin 1024) :
    (iblk m c 0 t : Vec F S1153x1024 .f32) (ix2 r j) = aMem m c (ix2 (rowOf t j) r) := by
  unfold iblk
  rw [View.read_apply]
  show V m c main_v1 _ = _
  rw [V_v1]
  refine Eq.trans (congrArg (transpose S1153x8192 [1, 0] (aMem m c) transposes_S8192x1153_S1153x8192_1_0)
    (?_ : _ = ix2 r (rowOf t j))) (transpose_ix2_apply _ _ _ _)
  funext a
  apply Fin.ext
  match a with
  | ⟨0, _⟩ => show win0_0.index t 0 * 1153 + 1 * r.val = r.val; rw [(idx0 t).1]; omega
  | ⟨1, _⟩ => show win0_0.index t 1 * 1024 + 1 * j.val = 1024 * t.val + j.val; rw [(idx0 t).2]; omega

theorem blk1 (t : Fin cfg0.N) : (iblk m c 1 t : Vec F S1153x2306 .f32) = aW1 m c := by
  funext j
  unfold iblk
  rw [View.read_apply]
  show V m c main_arg1 _ = _
  rw [V_main_arg1]
  refine congrArg (aW1 m c) (funext fun a => Fin.ext ?_)
  match a with
  | ⟨0, _⟩ => show win0_1.index t 0 * 1153 + 1 * (j 0).val = (j 0).val; rw [(idx1 t).1]; omega
  | ⟨1, _⟩ => show win0_1.index t 1 * 2306 + 1 * (j 1).val = (j 1).val; rw [(idx1 t).2]; omega

theorem blk2 (t : Fin cfg0.N) : (iblk m c 2 t : Vec F S1153x8 .f32) = aX m c := by
  funext j
  unfold iblk
  rw [View.read_apply]
  show V m c main_arg2 _ = _
  rw [V_main_arg2]
  refine congrArg (aX m c) (funext fun a => Fin.ext ?_)
  match a with
  | ⟨0, _⟩ => show win0_2.index t 0 * 1153 + 1 * (j 0).val = (j 0).val; rw [(idx2 t).1]; omega
  | ⟨1, _⟩ => show win0_2.index t 1 * 8 + 1 * (j 1).val = (j 1).val; rw [(idx2 t).2]; omega

theorem blk4 (t : Fin cfg0.N) : (iblk m c 4 t : Vec F S1x1153 .f32) = aW2 m c := by
  funext j
  unfold iblk
  rw [View.read_apply]
  show V m c main_arg3 _ = _
  rw [V_main_arg3]
  refine congrArg (aW2 m c) (funext fun a => Fin.ext ?_)
  match a with
  | ⟨0, _⟩ => show win0_4.index t 0 * 1 + 1 * (j 0).val = (j 0).val; rw [(idx4 t).1]; omega
  | ⟨1, _⟩ => show win0_4.index t 1 * 1153 + 1 * (j 1).val = (j 1).val; rw [(idx4 t).2]; omega

theorem blk3 (t : Fin cfg0.N) (j : S1x1.Idx) : (iblk m c 3 t : Vec F S1x1 .f32) j = aThr m c ix0 := by
  unfold iblk
  rw [View.read_apply]
  show V m c main_v0 _ = _
  rw [V_v0]
  exact congrArg (aThr m c) (funext fun a => a.elim0)

end Cert.KernelIdeal.Step
-- ==== Proof.Score.lean ====
/-
  The attention score of one memory row for one batch as a real number: the second layer's weights, which are real, against hyperbolic
  tangents, which are real whatever the hidden layer holds.
-/
module

public import Idealize.ShloMosaic.PureOps.Ideal.Laws
public import Idealize.ShloMosaic.Lib.ValueIdxCore

@[expose] public section

noncomputable section

namespace Cert.Score

open Idealize.ShloMosaic

/-- An extended real that is neither infinite is its real part. -/
theorem coe_toReal {x : EReal} (ht : x ≠ ⊤) (hb : x ≠ ⊥) : ((x.toReal : ℝ) : EReal) = x := EReal.coe_toReal ht hb

theorem tanh_real (x : EReal) : ((Ideal.tanh x).toReal : EReal) = Ideal.tanh x := by
  induction x using EReal.rec with
  | bot => rfl
  | top => rfl
  | coe r => rfl

theorem coe_sum {ι : Type*} (T : Finset ι) (f : ι → ℝ) : ((∑ i ∈ T, f i : ℝ) : EReal) = ∑ i ∈ T, (f i : EReal) := by
  classical
  refine Finset.induction_on T (by simp) fun a T ha ih => ?_
  rw [Finset.sum_insert ha, Finset.sum_insert ha, EReal.coe_add, ih]

/-- The hidden layer's entry `f`: the memory row against the weights' row `f`, plus the input part. -/
def hid (mem : Fin 1153 → EReal) (w1 : Fin 1153 → Fin 1153 → EReal) (x : Fin 1153 → EReal) (f : Fin 1153) : EReal :=
  (∑ k : Fin 1153, w1 f k * mem k) + x f

/-- The score without the second layer's bias. -/
def score (w2 h : Fin 1153 → EReal) : ℝ := ∑ f : Fin 1153, (w2 f).toReal * (Ideal.tanh (h f)).toReal

theorem score_eq (w2 h : Fin 1153 → EReal) (hw : ∀ f, w2 f ≠ ⊤ ∧ w2 f ≠ ⊥) :
    ∑ f : Fin 1153, w2 f * Ideal.tanh (h f) = ((score w2 h : ℝ) : EReal) := by
  unfold score
  rw [coe_sum]
  refine Finset.sum_congr rfl fun f _ => ?_
  rw [EReal.coe_mul, tanh_real, coe_toReal (hw f).1 (hw f).2]

/-- Row `n`'s score for batch `b`, from the arrays. -/
def rowScore (mem : (⟨2, ![8192, 1153]⟩ : Shape).Idx → EReal) (w1 : (⟨2, ![1153, 2306]⟩ : Shape).Idx → EReal)
    (x : (⟨2, ![1153, 8]⟩ : Shape).Idx → EReal) (w2 : (⟨2, ![1, 1153]⟩ : Shape).Idx → EReal) (b : Fin 8) (n : ℕ) : ℝ :=
  score (fun f => w2 (ValueIdx.ix2 (0 : Fin 1) f))
    (hid (fun k => mem (ValueIdx.ix2 (⟨n % 8192, Nat.mod_lt _ (by decide)⟩ : Fin 8192) k))
      (fun f k => w1 (ValueIdx.ix2 f (⟨1153 + k.val, by have := k.isLt; omega⟩ : Fin 2306)))
      (fun f => x (ValueIdx.ix2 f b)))

end Cert.Score
-- ==== Proof.KScore.lean ====
/-
  The kernel's tile scores at the ideal values, entry by entry.
-/
module

public import proofs.«01_k».proof.Proof.Blocks
public import proofs.«01_k».proof.Proof.Score
public import Idealize.ShloMosaic.Lib.Pointwise

@[expose] public section

noncomputable section

namespace Cert.KernelIdeal.Step

open Cert.KernelIdeal Cert.KernelIdeal.Gen Idealize.ShloMosaic Cert.Score

theorem part_at (x0 : Vec Ideal S1153x1024 .f32) (w : Vec Ideal S1153x1153 .f32) (f : Fin 1153) (j : Fin 1024) :
    k0_pay11 x0 w (ValueIdx.ix2 f j) = ∑ k : Fin 1153, (w (ValueIdx.ix2 f k) : EReal) * x0 (ValueIdx.ix2 k j) := by
  unfold k0_pay11
  rw [pay_t]
  simp only [pointwise]
  rw [zero_add]
  rfl

theorem col_at (X : Vec Ideal S1153x8 .f32) (b : Fin 8) (i : S1153x1.Idx) :
    col X b i = X (ValueIdx.ix2 (⟨(i 0).val, (i 0).isLt⟩ : Fin 1153) b) := by
  unfold col
  refine congrArg X (funext fun a => ?_)
  match a with
  | ⟨0, _⟩ => rfl
  | ⟨1, _⟩ => rfl

theorem sc_at (P : FVec Ideal S1153x1024 .f32) (X : Vec Ideal S1153x8 .f32) (w : Vec Ideal S1x1153 .f32) (b : Fin 8) (j : Fin 1024) :
    sc P X w b (ValueIdx.ix2 (0 : Fin 1) j)
      = ∑ f : Fin 1153, (w (ValueIdx.ix2 (0 : Fin 1) f) : EReal) * Ideal.tanh ((P (ValueIdx.ix2 f j) : EReal) + X (ValueIdx.ix2 f b)) := by
  unfold sc
  simp only [pointwise]
  rw [zero_add]
  refine Finset.sum_congr rfl fun f _ => ?_
  rw [col_at]
  rfl

variable (m : (ℓ : Loc nD τ sig) → Buf (Elt Ideal) ℓ) (c : Dev nD)

/-- The half of the first layer's weights that multiplies the memory. -/
def wm : Vec Ideal S1153x1153 .f32 := View.ld (Val := Elt Ideal) (e' := .f32) (aW1 m c) (Rect.unit (s := S1153x2306) ![0, 1153] ![1153, 1153] inb_S1153x2306_S1153x1153_0_1153)

theorem wm_at (f k : Fin 1153) :
    wm m c (ValueIdx.ix2 f k) = aW1 m c (ValueIdx.ix2 f (⟨1153 + k.val, by have := k.isLt; omega⟩ : Fin 2306)) := by
  refine congrArg (aW1 m c) (funext fun a => Fin.ext ?_)
  match a with
  | ⟨0, _⟩ => show 0 + 1 * f.val = f.val; omega
  | ⟨1, _⟩ => show 1153 + 1 * k.val = 1153 + k.val; omega

/-- Row `n`'s score for batch `b`. -/
def srow (b : Fin 8) (n : ℕ) : ℝ := rowScore (aMem m c) (aW1 m c) (aX m c) (aW2 m c) b n

/-- The second layer's weights are real numbers. -/
def RealW : Prop := ∀ f : Fin 1153, (aW2 m c (ValueIdx.ix2 (0 : Fin 1) f) : EReal) ≠ ⊤ ∧ (aW2 m c (ValueIdx.ix2 (0 : Fin 1) f) : EReal) ≠ ⊥

theorem tile_scores (hw : RealW m c) (t : Fin cfg0.N) (b : Fin 8) (j : Fin 1024) :
    sc (k0_pay11 (iblk m c 0 t) (wm m c)) (iblk m c 2 t) (iblk m c 4 t) b (ValueIdx.ix2 (0 : Fin 1) j)
      = ((srow m c b (1024 * t.val + j.val) : ℝ) : EReal) := by
  rw [sc_at, blk2, blk4]
  unfold srow rowScore
  rw [← score_eq _ _ hw]
  refine Finset.sum_congr rfl fun f _ => ?_
  rw [part_at]
  unfold hid
  have e : (⟨(1024 * t.val + j.val) % 8192, Nat.mod_lt _ (by decide)⟩ : Fin 8192) = rowOf t j :=
    Fin.ext (Nat.mod_eq_of_lt (rowOf t j).isLt)
  rw [e]
  simp only [wm_at, blk0]

end Cert.KernelIdeal.Step
-- ==== Proof.Online.lean ====
/- The mathematics of the running maximum, running sum and running first position of the maximum that the score
   kernel keeps over column tiles, and of the softmax and its first greatest position: over real scores, free of any
   program. -/
module

public import Idealize.ShloMosaic.PureOps
public import Idealize.ShloMosaic.PureOps.Ideal

@[expose] public section

noncomputable section

namespace Cert.Online

open Idealize.ShloMosaic

/-- `k` is the first position below `n` at which `s` takes its greatest value there. -/
structure FirstMax (s : ℕ → ℝ) (n k : ℕ) : Prop where
  lt : k < n
  le : ∀ j, j < n → s j ≤ s k
  first : ∀ j, j < n → s j = s k → k ≤ j

theorem FirstMax.unique {s : ℕ → ℝ} {n k k' : ℕ} (h : FirstMax s n k) (h' : FirstMax s n k') : k = k' :=
  le_antisymm (h.first k' h'.lt (le_antisymm (h.le k' h'.lt) (h'.le k h.lt)))
    (h'.first k h.lt (le_antisymm (h'.le k h.lt) (h.le k' h'.lt)))

/-- A first maximum exists at every positive length. -/
theorem FirstMax.exists (s : ℕ → ℝ) {n : ℕ} (hn : 0 < n) : ∃ k, FirstMax s n k := by
  induction n with
  | zero => omega
  | succ n ih =>
    rcases Nat.eq_zero_or_pos n with rfl | hp
    · refine ⟨0, by omega, fun j hj => ?_, fun j hj _ => by omega⟩
      obtain rfl : j = 0 := by omega
      exact le_rfl
    · obtain ⟨k, hk⟩ := ih hp
      by_cases h : s k < s n
      · refine ⟨n, by omega, fun j hj => ?_, fun j hj hs => ?_⟩
        · rcases Nat.lt_succ_iff_lt_or_eq.mp hj with h' | rfl
          · exact (hk.le j h').trans h.le
          · exact le_rfl
        · rcases Nat.lt_succ_iff_lt_or_eq.mp hj with h' | rfl
          · exact absurd (hk.le j h') (by rw [hs]; exact not_le.mpr h)
          · exact le_rfl
      · refine ⟨k, by have := hk.lt; omega, fun j hj => ?_, fun j hj hs => ?_⟩
        · rcases Nat.lt_succ_iff_lt_or_eq.mp hj with h' | rfl
          · exact hk.le j h'
          · exact not_lt.mp h
        · rcases Nat.lt_succ_iff_lt_or_eq.mp hj with h' | rfl
          · exact hk.first j h' hs
          · exact hk.lt.le

/-- What a tile of `w` positions starting at `n` contributes: its greatest score, the sum of the exponentials relative
    to it, and the first position (within the tile) of the greatest score. -/
structure Tile (s : ℕ → ℝ) (n w : ℕ) (m l : EReal) (a : BitVec 32) : Prop where
  ex : ∃ k, FirstMax (fun j => s (n + j)) w k ∧ m = ((s (n + k) : ℝ) : EReal)
    ∧ l = ((∑ j ∈ Finset.range w, Real.exp (s (n + j) - s (n + k)) : ℝ) : EReal) ∧ a = BitVec.ofNat 32 k

/-- What the running values hold after the first `n` positions. -/
structure Inv (s : ℕ → ℝ) (n : ℕ) (m l : EReal) (a : BitVec 32) : Prop where
  ex : ∃ k, FirstMax s n k ∧ m = ((s k : ℝ) : EReal)
    ∧ l = ((∑ j ∈ Finset.range n, Real.exp (s j - s k) : ℝ) : EReal) ∧ a = BitVec.ofNat 32 k

/-- The running sum after one more tile. -/
def sumStep (M L m l : EReal) : EReal :=
  L * Ideal.exp (M - max M m) + l * Ideal.exp (m - max M m)

theorem sum_rescale (s : ℕ → ℝ) (n w : ℕ) (c d : ℝ) :
    (∑ j ∈ Finset.range w, Real.exp (s (n + j) - c)) * Real.exp (c - d)
      = ∑ j ∈ Finset.range w, Real.exp (s (n + j) - d) := by
  rw [Finset.sum_mul]
  refine Finset.sum_congr rfl fun j _ => ?_
  rw [← Real.exp_add]; congr 1; ring

theorem coe_max (a b : ℝ) : ((max a b : ℝ) : EReal) = max (a : EReal) (b : EReal) :=
  EReal.coe_strictMono.monotone.map_max

theorem sumStep_coe (M L m l : ℝ) :
    sumStep (M : EReal) (L : EReal) (m : EReal) (l : EReal)
      = ((L * Real.exp (M - max M m) + l * Real.exp (m - max M m) : ℝ) : EReal) := by
  unfold sumStep
  rw [← coe_max, ← EReal.coe_sub, ← EReal.coe_sub, Ideal.exp_coe, Ideal.exp_coe, ← EReal.coe_mul, ← EReal.coe_mul,
    ← EReal.coe_add]

/-- The first tile, over the values the kernel starts from: no maximum yet (−∞), an empty sum. -/
theorem Inv.first {s : ℕ → ℝ} {w : ℕ} {m l : EReal} {a : BitVec 32} (t : Tile s 0 w m l a) :
    Inv s w (max ⊥ m) (sumStep ⊥ 0 m l) a := by
  obtain ⟨k, hk, rfl, rfl, rfl⟩ := t.ex
  simp only [Nat.zero_add] at hk ⊢
  refine ⟨k, hk, max_eq_right bot_le, ?_, rfl⟩
  unfold sumStep
  rw [max_eq_right bot_le, zero_mul, zero_add, ← EReal.coe_sub, sub_self, Ideal.exp_coe, Real.exp_zero, EReal.coe_one,
    mul_one]

/-- One more tile: the maximum, the rescaled sum and the position are those of the longer prefix. -/
theorem Inv.step {s : ℕ → ℝ} {n w : ℕ} {M L m l : EReal} {A a : BitVec 32} (h : Inv s n M L A) (t : Tile s n w m l a) :
    Inv s (n + w) (max M m) (sumStep M L m l) (if M < m then BitVec.ofNat 32 n + a else A) := by
  obtain ⟨K, hK, rfl, rfl, rfl⟩ := h.ex
  obtain ⟨k, hk, rfl, rfl, rfl⟩ := t.ex
  simp only [sumStep_coe, EReal.coe_lt_coe_iff, ← coe_max]
  have hs := sum_rescale s 0 n (s K) (max (s K) (s (n + k)))
  simp only [Nat.zero_add] at hs
  rw [hs, sum_rescale, ← Finset.sum_range_add (fun j => Real.exp (s j - max (s K) (s (n + k))))]
  by_cases hlt : s K < s (n + k)
  · rw [if_pos hlt, max_eq_right hlt.le]
    refine ⟨n + k, ⟨by have := hk.lt; omega, fun j hj => ?_, fun j hj he => ?_⟩, rfl, rfl, ?_⟩
    · by_cases hjn : j < n
      · exact (hK.le j hjn).trans hlt.le
      · have := hk.le (j - n) (by omega)
        simpa [Nat.add_sub_cancel' (not_lt.mp hjn)] using this
    · by_cases hjn : j < n
      · exact absurd (he ▸ hK.le j hjn) (not_le.mpr hlt)
      · have := hk.first (j - n) (by omega) (by simpa [Nat.add_sub_cancel' (not_lt.mp hjn)] using he)
        omega
    · rw [BitVec.ofNat_add]
  · rw [if_neg hlt, max_eq_left (not_lt.mp hlt)]
    refine ⟨K, ⟨by have := hK.lt; omega, fun j hj => ?_, fun j hj he => ?_⟩, rfl, rfl, rfl⟩
    · by_cases hjn : j < n
      · exact hK.le j hjn
      · have := hk.le (j - n) (by omega)
        exact (by simpa [Nat.add_sub_cancel' (not_lt.mp hjn)] using this : s j ≤ s (n + k)).trans (not_lt.mp hlt)
    · by_cases hjn : j < n
      · exact hK.first j hjn he
      · have := hK.lt; omega

/-! ## The softmax and its first greatest position -/

/-- A signed comparison of small natural words is the naturals'. -/
theorem slt_ofNat {a b : ℕ} (ha : a < 2 ^ 31) (hb : b < 2 ^ 31) :
    IntOp.cmpi .slt (BitVec.ofNat 32 a) (BitVec.ofNat 32 b) = BitVec.ofBool (decide (a < b)) := by
  have h1 : (BitVec.ofNat 32 a).toInt = a := by
    rw [BitVec.toInt_eq_toNat_cond, BitVec.toNat_ofNat, Nat.mod_eq_of_lt (by omega)]; split <;> omega
  have h2 : (BitVec.ofNat 32 b).toInt = b := by
    rw [BitVec.toInt_eq_toNat_cond, BitVec.toNat_ofNat, Nat.mod_eq_of_lt (by omega)]; split <;> omega
  show BitVec.ofBool (BitVec.slt _ _) = _
  unfold BitVec.slt
  rw [h1, h2]; congr 1
  simp

end Cert.Online

end
-- ==== Proof.Tile.lean ====
/-
  One tile at the ideal values: when the tile's scores are real numbers, the maximum, the first lane attaining it and the sum of the shifted
  exponentials are the tile of the online softmax (Online.lean).
-/
module

public import proofs.«01_k».proof.Proof.Step
public import proofs.«01_k».proof.Proof.Online
public import Idealize.ShloMosaic.Lib.ValueLayoutCasts
public import Idealize.ShloMosaic.PureOps.Ideal.Laws
public import Idealize.ShloMosaic.Lib.SortNet.Extract

@[expose] public section

noncomputable section

namespace Cert.KernelIdeal.Step

open Cert.KernelIdeal Cert.KernelIdeal.Gen Idealize.ShloMosaic Idealize.ShloMosaic.ValueIdx Cert.Online

theorem toInt_ofNat {n : ℕ} (h : n < 2147483648) : (BitVec.ofNat 32 n).toInt = n := by
  have e : (BitVec.ofNat 32 n).toNat = n := by rw [BitVec.toNat_ofNat]; omega
  rw [BitVec.toInt_eq_toNat_of_lt (by rw [e]; omega), e]

theorem sel_ofBool {α : Type} (p : Bool) (a b : α) : Scalar.select (BitVec.ofBool p) a b = if p then a else b := by cases p <;> rfl

theorem ofBits_bot : Ideal.ofBits .f32 0xFF800000#32 = (⊥ : EReal) := by
  simp [Ideal.ofBits, Ideal.ieee]

/-- A fold of `max` from the bottom is any value attained that bounds all the others. -/
theorem fold_max_eq {ι : Type*} (S : Finset ι) (f : ι → EReal) (c : EReal) (i : ι) (hi : i ∈ S) (hc : f i = c) (hle : ∀ j ∈ S, f j ≤ c) :
    S.fold max ⊥ f = c :=
  le_antisymm ((Finset.fold_max_le c).mpr ⟨bot_le, hle⟩) ((Finset.le_fold_max c).mpr (Or.inr ⟨i, hi, hc.ge⟩))

theorem fold_minsi_eq {ι : Type*} [DecidableEq ι] (S : Finset ι) (g : ι → BitVec 32) (z v : BitVec 32) (i : ι) (hi : i ∈ S) (hv : g i = v)
    (hz : v.toInt ≤ z.toInt) (hle : ∀ j ∈ S, v.toInt ≤ (g j).toInt) : S.fold IntOp.minsi z g = v := by
  have lower : ∀ T : Finset ι, (∀ j ∈ T, v.toInt ≤ (g j).toInt) → v.toInt ≤ (T.fold IntOp.minsi z g).toInt := by
    intro T
    refine Finset.induction_on T (fun _ => by rw [Finset.fold_empty]; exact hz) ?_
    intro a T ha ih h
    rw [Finset.fold_insert ha, SortNet.toInt_minsi]
    exact le_min (h a (Finset.mem_insert_self a T)) (ih fun j hj => h j (Finset.mem_insert_of_mem hj))
  have upper : ∀ T : Finset ι, ∀ j ∈ T, (T.fold IntOp.minsi z g).toInt ≤ (g j).toInt := by
    intro T
    refine Finset.induction_on T (fun j hj => absurd hj (Finset.notMem_empty j)) ?_
    intro a T ha ih j hj
    rw [Finset.fold_insert ha, SortNet.toInt_minsi]
    rcases Finset.mem_insert.mp hj with rfl | hj
    · exact min_le_left _ _
    · exact (min_le_right _ _).trans (ih j hj)
  exact BitVec.eq_of_toInt_eq (le_antisymm ((upper S i hi).trans (by rw [hv])) (lower S hle))

/-- The last coordinate. -/
def l2 (i : S1x1x1024.Idx) : Fin 1024 := ⟨(i 2).val, (i 2).isLt⟩

/-- An index of the 1 by 1 by 1024 array as its last coordinate. -/
theorem cast_at {α : Type} (x : S1x1024.Idx → α) (h) (i : S1x1x1024.Idx) :
    shapeCast S1x1x1024 x h i = x (ix2 (0 : Fin 1) (l2 i)) := by
  have e : i = ix3 (0 : Fin 1) (0 : Fin 1) (l2 i) := by
    funext a
    match a with
    | ⟨0, _⟩ => exact Subsingleton.elim (α := Fin 1) _ _
    | ⟨1, _⟩ => exact Subsingleton.elim (α := Fin 1) _ _
    | ⟨2, _⟩ => rfl
  rw [e]
  exact shapeCast_ab_1ab_apply x h _ _ _

theorem filter_all (h : S1x1x1024.Reduces [1, 2] S1) (j : S1.Idx) : (Finset.univ.filter fun i => h.drop i = j) = Finset.univ :=
  Finset.filter_true_of_mem fun i _ => funext fun b => by
    match b with
    | ⟨0, _⟩ => exact Subsingleton.elim (α := Fin 1) _ _

theorem sum_cast (f : Fin 1024 → EReal) : ∑ i : S1x1x1024.Idx, f (l2 i) = ∑ k : Fin 1024, f k := by
  refine Fintype.sum_equiv ⟨fun i => (l2 i), fun k => ix3 (0 : Fin 1) (0 : Fin 1) k, fun i => ?_, fun k => rfl⟩ _ _ (fun i => rfl)
  funext a
  match a with
  | ⟨0, _⟩ => exact Subsingleton.elim (α := Fin 1) _ _
  | ⟨1, _⟩ => exact Subsingleton.elim (α := Fin 1) _ _
  | ⟨2, _⟩ => rfl

variable {S : FVec Ideal S1x1024 .f32} {s : ℕ → ℝ} {n : ℕ}

theorem coe_sum {ι : Type*} (T : Finset ι) (f : ι → ℝ) : ((∑ i ∈ T, f i : ℝ) : EReal) = ∑ i ∈ T, (f i : EReal) := by
  classical
  refine Finset.induction_on T (by simp) fun a T ha ih => ?_
  rw [Finset.sum_insert ha, Finset.sum_insert ha, EReal.coe_add, ih]

theorem exp_at (S : FVec Ideal S1x1024 .f32) (m : Ideal .f32) (j : S1x1024.Idx) :
    exp (subf S (broadcast S1x1024 m)) j = Ideal.exp ((S j : EReal) - m) := rfl

theorem sel_at (S : FVec Ideal S1x1024 .f32) (m : Ideal .f32) (I : IVec S1x1024 32) (j : S1x1024.Idx) :
    select (cmpf .oeq S (broadcast S1x1024 m)) I (broadcast S1x1024 8192#32) j = Scalar.select (Ideal.cmp .oeq (S j) m) (I j) 8192#32 := rfl

theorem mx_eq (hS : ∀ j : Fin 1024, S (ix2 (0 : Fin 1) j) = ((s (n + j.val) : ℝ) : EReal)) {k : ℕ} (hk : FirstMax (fun j => s (n + j)) 1024 k) :
    mx S = ((s (n + k) : ℝ) : EReal) := by
  unfold mx extractAt
  refine (multiReduction_maximumf_eq_fold (F := Ideal) (shapeCast S1x1x1024 S shapeCasts_S1x1024_S1x1x1024) 0xFF800000#32
    reduces_S1x1x1024_S1 (.inl rfl) rfl _).trans ?_
  rw [filter_all]
  have hb : (FloatOps.ofBits .f32 0xFF800000#32 : Ideal .f32) = (⊥ : EReal) := ofBits_bot
  rw [hb]
  refine fold_max_eq _ _ _ (ix3 (0 : Fin 1) (0 : Fin 1) (⟨k, hk.lt⟩ : Fin 1024)) (Finset.mem_univ _) ?_ (fun j _ => ?_)
  · rw [cast_at]; exact hS ⟨k, hk.lt⟩
  · rw [cast_at, hS]
    exact EReal.coe_le_coe_iff.mpr (hk.le _ (Fin.isLt (l2 j)))

theorem sm_eq (hS : ∀ j : Fin 1024, S (ix2 (0 : Fin 1) j) = ((s (n + j.val) : ℝ) : EReal)) {k : ℕ} (hk : FirstMax (fun j => s (n + j)) 1024 k) :
    sm S = ((∑ j ∈ Finset.range 1024, Real.exp (s (n + j) - s (n + k)) : ℝ) : EReal) := by
  unfold sm extractAt
  refine (Ideal.multiReduction_add_total (shapeCast S1x1x1024 (exp (subf S (broadcast S1x1024 (mx S)))) shapeCasts_S1x1024_S1x1x1024)
    0x00000000#32 reduces_S1x1x1024_S1 (fun b => by match b with | ⟨0, _⟩ => rfl) (.inl rfl) rfl _).trans ?_
  simp only [cast_at]
  rw [sum_cast (fun k => exp (subf S (broadcast S1x1024 (mx S))) (ix2 (0 : Fin 1) k)), Finset.sum_range (n := 1024)]
  have : ∀ j : Fin 1024, exp (subf S (broadcast S1x1024 (mx S))) (ix2 (0 : Fin 1) j) = ((Real.exp (s (n + j) - s (n + k)) : ℝ) : EReal) := by
    intro j
    rw [exp_at, hS, mx_eq hS hk, ← EReal.coe_sub, Ideal.exp_coe]
  rw [Finset.sum_congr rfl fun j _ => this j]
  exact (coe_sum _ _).symm

theorem ag_eq (hS : ∀ j : Fin 1024, S (ix2 (0 : Fin 1) j) = ((s (n + j.val) : ℝ) : EReal)) {k : ℕ} (hk : FirstMax (fun j => s (n + j)) 1024 k) :
    agI lanes S = BitVec.ofNat 32 k := by
  have hk1 := hk.lt
  have tI : ∀ j : ℕ, j < 1024 → (BitVec.ofNat 32 j).toInt = j := fun j hj => toInt_ofNat (by omega)
  unfold agI extractAt
  refine (multiReductionI_eq_fold _ _ _ _ _ _).trans ?_
  rw [filter_all]
  have key : ∀ j : Fin 1024, (select (cmpf .oeq S (broadcast S1x1024 (mx S))) lanes (broadcast S1x1024 8192#32)) (ix2 (0 : Fin 1) j)
      = if s (n + j) = s (n + k) then BitVec.ofNat 32 j.val else 8192#32 := by
    intro j
    have hl : lanes (ix2 (0 : Fin 1) j) = BitVec.ofNat 32 j.val := by
      unfold lanes
      exact iota_single_apply _ _ _ _ _ _
    rw [sel_at, hl, hS, mx_eq hS hk]
    refine (sel_ofBool _ _ _).trans ?_
    simp only [decide_eq_true_eq, EReal.coe_eq_coe_iff]
  refine fold_minsi_eq _ _ _ _ (ix3 (0 : Fin 1) (0 : Fin 1) (⟨k, hk.lt⟩ : Fin 1024)) (Finset.mem_univ _) ?_ ?_ (fun j _ => ?_)
  · rw [cast_at]; exact (key ⟨k, hk.lt⟩).trans (if_pos rfl)
  · rw [tI k hk1]
    rw [toInt_ofNat (n := 2147483647) (by omega)]; omega
  · rw [cast_at, key, tI k hk1]
    split
    · rename_i h
      have := hk.first _ (Fin.isLt (l2 j)) h
      rw [tI _ (Fin.isLt (l2 j))]; omega
    · rw [toInt_ofNat (n := 8192) (by omega)]; omega

/-- One tile of real scores. -/
theorem tile (hS : ∀ j : Fin 1024, S (ix2 (0 : Fin 1) j) = ((s (n + j.val) : ℝ) : EReal)) : Tile s n 1024 (mx S) (sm S) (agI lanes S) := by
  obtain ⟨k, hk⟩ := FirstMax.exists (fun j => s (n + j)) (n := 1024) (by omega)
  exact ⟨k, hk, mx_eq hS hk, sm_eq hS hk, ag_eq hS hk⟩

theorem nmax_eq {S : FVec Ideal S1x1024 .f32} (M : EReal) : nmax S M = max M (mx S) := by
  unfold nmax
  generalize mx S = m
  rfl

theorem nsum_eq {S : FVec Ideal S1x1024 .f32} (M L : EReal) : nsum S M L = sumStep M L (mx S) (sm S) := by
  unfold nsum nmax sumStep
  generalize mx S = m
  generalize sm S = l
  rfl

theorem nargI_eq {S : FVec Ideal S1x1024 .f32} (t : ℕ) (M : EReal) (A : BitVec 32) :
    nargI t lanes S M A = if (M : EReal) < mx S then BitVec.ofNat 32 (1024 * t) + agI lanes S else A := by
  unfold nargI
  generalize mx S = m
  generalize agI lanes S = a
  have e : BitVec.ofNat 32 t * 1024#32 = BitVec.ofNat 32 (1024 * t) := by
    rw [Nat.mul_comm, BitVec.ofNat_mul]
  rw [← e]
  refine (sel_ofBool _ _ _).trans ?_
  simp only [decide_eq_true_eq]
  rfl

end Cert.KernelIdeal.Step
-- ==== Proof.Fold.lean ====
/-
  The eight grid points: after point `n` the scratch holds, for every batch, the online softmax's state over the first `1024 (n + 1)` rows.
-/
module

public import proofs.«01_k».proof.Proof.KScore
public import proofs.«01_k».proof.Proof.Tile

@[expose] public section

noncomputable section

namespace Cert.KernelIdeal.Step

open Cert.KernelIdeal Cert.KernelIdeal.Gen Cert.KernelIdeal.Value Idealize.ShloMosaic Idealize.ShloMosaic.TcCoe Idealize.SL.Sem Cert.Online

variable (m : (ℓ : Loc nD τ sig) → Buf (Elt Ideal) ℓ) (c : Dev nD)

/-- The state a fold of points carries. -/
abbrev St := Vec Ideal S1153x1024 .f32 × Vec Ideal S1x16 .i32 × Vec Ideal S1153x1153 .f32 × Vec Ideal S8 .f32 × Vec Ideal S8 .f32 × Vec Ideal S8 .i32

/-- What the scratch holds after `n` rows. -/
structure Holds (n : ℕ) (s : St) : Prop where
  w : s.2.2.1 = wm m c
  inv : ∀ y : S8.Idx, Inv (srow m c (bi y)) n (s.2.2.2.1 y) (s.2.2.2.2.1 y) (s.2.2.2.2.2 y)

theorem tileAt (hw : RealW m c) (t : Fin cfg0.N) (b : Fin 8) :
    Tile (srow m c b) (1024 * t.val) 1024 (mx (sc (k0_pay11 (iblk m c 0 t) (wm m c)) (iblk m c 2 t) (iblk m c 4 t) b))
      (sm (sc (k0_pay11 (iblk m c 0 t) (wm m c)) (iblk m c 2 t) (iblk m c 4 t) b))
      (agI lanes (sc (k0_pay11 (iblk m c 0 t) (wm m c)) (iblk m c 2 t) (iblk m c 4 t) b)) :=
  tile fun j => tile_scores m c hw t b j

theorem holds_A (hw : RealW m c) (t : Fin cfg0.N) (acc : St) (h0 : t.val % 8 = 0) (h1 : ¬t.val % 8 = 7) :
    Holds m c (1024 * (t.val + 1)) (stAt0 m c t.val t.isLt acc) ∧ (stAt0 m c t.val t.isLt acc).1 = (iblk m c 0 t : Vec Ideal S1153x1024 .f32) := by
  have ht : t.val = 0 := by have := t.isLt; have hN : cfg0.N = 8 := N_0; omega
  rw [stAt0_A m c t acc h0 h1]
  refine ⟨⟨?_, fun y => ?_⟩, ?_⟩
  · dsimp only
    rw [sout0_A_0_eq, blk1]
    rfl
  · dsimp only
    rw [sout0_A_1_eq, sout0_A_2_eq, sout0_A_3_eq, blk1, grid_val]
    have T := tileAt m c hw t (bi y)
    rw [ht, Nat.mul_zero] at T
    have I := Inv.first T
    have hm : (Named.named κ "mask" 0xF149F2CA#32 : Ideal .f32) = (⊥ : EReal) := rfl
    have hz : (Scalar.ofBits .f32 0x00000000#32 : Ideal .f32) = (0 : EReal) := Ideal.ofBits_zero_f32
    dsimp only
    rw [nmax_eq, nsum_eq, nargI_eq, hm, hz, ht]
    have hlt : (⊥ : EReal) < mx (sc (k0_pay11 (iblk m c 0 t) (wm m c)) (iblk m c 2 t) (iblk m c 4 t) (bi y)) := by
      obtain ⟨k, _, hk, _, _⟩ := T.ex
      rw [hk]
      exact EReal.bot_lt_coe _
    have e : BitVec.ofNat 32 (1024 * 0) + agI lanes (sc (k0_pay11 (iblk m c 0 t) (wm m c)) (iblk m c 2 t) (iblk m c 4 t) (bi y))
        = agI lanes (sc (k0_pay11 (iblk m c 0 t) (wm m c)) (iblk m c 2 t) (iblk m c 4 t) (bi y)) := BitVec.zero_add _
    have I2 : Inv (srow m c (bi y)) (1024 * (0 + 1)) (max ⊥ (mx (sc (k0_pay11 (iblk m c 0 t) (wm m c)) (iblk m c 2 t) (iblk m c 4 t) (bi y))))
        (sumStep ⊥ 0 (mx (sc (k0_pay11 (iblk m c 0 t) (wm m c)) (iblk m c 2 t) (iblk m c 4 t) (bi y)))
          (sm (sc (k0_pay11 (iblk m c 0 t) (wm m c)) (iblk m c 2 t) (iblk m c 4 t) (bi y))))
        (if (⊥ : EReal) < mx (sc (k0_pay11 (iblk m c 0 t) (wm m c)) (iblk m c 2 t) (iblk m c 4 t) (bi y)) then
          BitVec.ofNat 32 (1024 * 0) + agI lanes (sc (k0_pay11 (iblk m c 0 t) (wm m c)) (iblk m c 2 t) (iblk m c 4 t) (bi y)) else 0#32) := by
      rw [if_pos hlt, e]
      exact I
    exact I2
  · dsimp only
    rw [out0_A_5_eq]

theorem holds_B (hw : RealW m c) (t : Fin cfg0.N) (acc : St) (h0 : ¬t.val % 8 = 0) (h1 : ¬t.val % 8 = 7) (h : Holds m c (1024 * t.val) acc) :
    Holds m c (1024 * (t.val + 1)) (stAt0 m c t.val t.isLt acc) ∧ (stAt0 m c t.val t.isLt acc).1 = (iblk m c 0 t : Vec Ideal S1153x1024 .f32) := by
  rw [stAt0_B m c t acc h0 h1]
  refine ⟨⟨h.w, fun y => ?_⟩, ?_⟩
  · dsimp only
    rw [sout0_B_1_eq, sout0_B_2_eq, sout0_B_3_eq, h.w, grid_val]
    have I := Inv.step (h.inv y) (tileAt m c hw t (bi y))
    dsimp only
    rw [nmax_eq, nsum_eq, nargI_eq]
    exact I
  · dsimp only
    rw [out0_B_5_eq]

theorem holds_C (hw : RealW m c) (t : Fin cfg0.N) (acc : St) (h0 : ¬t.val % 8 = 0) (h1 : t.val % 8 = 7) (h : Holds m c (1024 * t.val) acc) :
    Holds m c (1024 * (t.val + 1)) (stAt0 m c t.val t.isLt acc) ∧ (stAt0 m c t.val t.isLt acc).1 = (iblk m c 0 t : Vec Ideal S1153x1024 .f32)
      ∧ (stAt0 m c t.val t.isLt acc).2.1 = metaOf (aThr m c ValueIdx.ix0) lanes16 (stAt0 m c t.val t.isLt acc).2.2.2.2.1 (stAt0 m c t.val t.isLt acc).2.2.2.2.2 := by
  rw [stAt0_C m c t acc h0 h1]
  refine ⟨⟨h.w, fun y => ?_⟩, ?_, ?_⟩
  · dsimp only
    rw [sout0_C_1_eq, sout0_C_2_eq, sout0_C_3_eq, h.w, grid_val]
    have I := Inv.step (h.inv y) (tileAt m c hw t (bi y))
    dsimp only
    rw [nmax_eq, nsum_eq, nargI_eq]
    exact I
  · dsimp only
    rw [out0_C_5_eq]
  · dsimp only
    rw [out0_C_6_eq, sout0_C_2_eq, sout0_C_3_eq, blk3]

/-- After every point. -/
theorem holds (hw : RealW m c) : ∀ (n : ℕ) (hn : n < cfg0.N), Holds m c (1024 * (n + 1)) (outsAt0 m c n hn)
      ∧ (outsAt0 m c n hn).1 = (iblk m c 0 ⟨n, hn⟩ : Vec Ideal S1153x1024 .f32)
  | 0, hn => by
    rw [outsAt0_zero m c hn]
    exact holds_A m c hw ⟨0, hn⟩ _ (Nat.zero_mod _) (fun h => by dsimp only at h; omega)
  | n + 1, hn => by
    have ih := (holds hw n (Nat.lt_of_succ_lt hn)).1
    have hN : cfg0.N = 8 := N_0
    rw [outsAt0_succ m c n hn]
    by_cases h1 : (n + 1) % 8 = 7
    · have C := holds_C m c hw ⟨n + 1, hn⟩ _ (fun h => by dsimp only at h; omega) h1 ih
      exact ⟨C.1, C.2.1⟩
    · exact holds_B m c hw ⟨n + 1, hn⟩ _ (fun h => by dsimp only at h; omega) h1 ih

end Cert.KernelIdeal.Step
-- ==== Proof.Meta.lean ====
/-
  The joined integer row, lane by lane: lanes 0 to 7 hold the eight indices, lanes 8 to 15 whether the reciprocal of the sum is above the
  threshold.
-/
module

public import proofs.«01_k».proof.Proof.Step
public import Idealize.ShloMosaic.Lib.Pointwise

@[expose] public section

noncomputable section

namespace Cert.KernelIdeal.Step

open Cert.KernelIdeal Cert.KernelIdeal.Gen Idealize.ShloMosaic

theorem lanes16_at (q : Fin 16) : lanes16 (ValueIdx.ix2 (0 : Fin 1) q) = BitVec.ofNat 32 q.val := by
  unfold lanes16
  exact iota_single_apply _ _ _ _ _ _

variable {F : FTy → Type} [FloatOps F] [Named F]

/-- One term of the row: the value at its own lane, zero at the others. -/
def pick (I k a : BitVec 32) : BitVec 32 := Scalar.select (IntOp.cmpi .eq I k) a 0#32

/-- One flag of the row. -/
def flag (I k : BitVec 32) (c : BitVec 1) : BitVec 32 := Scalar.select (IntOp.cmpi .eq I k &&& c) 1#32 0#32

theorem bit_cases (c : BitVec 1) : c = 0#1 ∨ c = 1#1 := BitVec.eq_zero_or_eq_one c

theorem eq_self (I : BitVec 32) : IntOp.cmpi .eq I I = 1#1 := by
  unfold IntOp.cmpi
  simp

theorem eq_ne {I k : BitVec 32} (h : I ≠ k) : IntOp.cmpi .eq I k = 0#1 := by
  unfold IntOp.cmpi
  simp only [beq_eq_false_iff_ne.mpr h]
  rfl

theorem pick_self (I a : BitVec 32) : pick I I a = a := by
  unfold pick
  rw [eq_self]
  rfl

theorem pick_ne {I k : BitVec 32} (a : BitVec 32) (h : I ≠ k) : pick I k a = 0#32 := by
  unfold pick
  rw [eq_ne h]
  rfl

theorem flag_self (I : BitVec 32) (c : BitVec 1) : flag I I c = Scalar.select c 1#32 0#32 := by
  unfold flag
  rw [eq_self]
  rcases bit_cases c with rfl | rfl <;> rfl

theorem flag_ne {I k : BitVec 32} (c : BitVec 1) (h : I ≠ k) : flag I k c = 0#32 := by
  unfold flag
  rw [eq_ne h]
  rcases bit_cases c with rfl | rfl <;> rfl

/-- The row's entry at the lane numbered `x`: each batch's index at its lane, each batch's flag eight lanes on. -/
def rowW (x : BitVec 32) (A : S8.Idx → BitVec 32) (C : S8.Idx → BitVec 1) : BitVec 32 :=
  IntOp.addi (IntOp.addi (IntOp.addi (IntOp.addi (IntOp.addi (IntOp.addi (IntOp.addi (IntOp.addi (IntOp.addi (IntOp.addi (IntOp.addi (IntOp.addi (IntOp.addi (IntOp.addi (IntOp.addi (IntOp.addi (0#32) (pick x 0#32 (A (at8 0 (by decide)))))
    (flag x 8#32 (C (at8 0 (by decide))))) (pick x 1#32 (A (at8 1 (by decide)))))
    (flag x 9#32 (C (at8 1 (by decide))))) (pick x 2#32 (A (at8 2 (by decide)))))
    (flag x 10#32 (C (at8 2 (by decide))))) (pick x 3#32 (A (at8 3 (by decide)))))
    (flag x 11#32 (C (at8 3 (by decide))))) (pick x 4#32 (A (at8 4 (by decide)))))
    (flag x 12#32 (C (at8 4 (by decide))))) (pick x 5#32 (A (at8 5 (by decide)))))
    (flag x 13#32 (C (at8 5 (by decide))))) (pick x 6#32 (A (at8 6 (by decide)))))
    (flag x 14#32 (C (at8 6 (by decide))))) (pick x 7#32 (A (at8 7 (by decide)))))
    (flag x 15#32 (C (at8 7 (by decide))))

theorem metaOf_at (thr : Elt F .f32) (L : S8.Idx → Elt F .f32) (A : S8.Idx → BitVec 32) (i : S1x16.Idx) :
    metaOf thr lanes16 L A i
      = rowW (lanes16 i) A fun y => Scalar.cmpf .ogt (Scalar.divf (FloatOps.ofBits FTy.f32 0x3F800000#32) (L y)) thr := by
  unfold metaOf k0_pay1 k0_pay3 k0_pay4 k0_pay5 k0_pay6 k0_pay7 k0_pay8 k0_pay9
  rfl

theorem rowW_lo (A : S8.Idx → BitVec 32) (C : S8.Idx → BitVec 1) (b : ℕ) (hb : b < 8) : rowW (BitVec.ofNat 32 b) A C = A (at8 b hb) := by
  unfold rowW
  interval_cases b <;> simp [pick_self, pick_ne, flag_ne, IntOp.addi]

theorem rowW_hi (A : S8.Idx → BitVec 32) (C : S8.Idx → BitVec 1) (b : ℕ) (hb : b < 8) :
    rowW (BitVec.ofNat 32 (8 + b)) A C = Scalar.select (C (at8 b hb)) 1#32 0#32 := by
  unfold rowW
  interval_cases b <;> simp [flag_self, pick_ne, flag_ne, IntOp.addi]

theorem metaOf_lo (thr : Elt F .f32) (L : S8.Idx → Elt F .f32) (A : S8.Idx → BitVec 32) (b : Fin 8) :
    metaOf thr lanes16 L A (ValueIdx.ix2 (0 : Fin 1) (⟨b.val, by omega⟩ : Fin 16)) = A (at8 b.val b.isLt) := by
  rw [metaOf_at, lanes16_at]
  exact rowW_lo _ _ _ _

theorem metaOf_hi (thr : Elt F .f32) (L : S8.Idx → Elt F .f32) (A : S8.Idx → BitVec 32) (b : Fin 8) :
    metaOf thr lanes16 L A (ValueIdx.ix2 (0 : Fin 1) (⟨8 + b.val, by omega⟩ : Fin 16))
      = Scalar.select (Scalar.cmpf .ogt (Scalar.divf (FloatOps.ofBits FTy.f32 0x3F800000#32) (L (at8 b.val b.isLt))) thr) 1#32 0#32 := by
  rw [metaOf_at, lanes16_at]
  exact rowW_hi _ _ _ _

end Cert.KernelIdeal.Step
-- ==== Proof.Output.lean ====
/-
  The score kernel's two results at the ideal values: the memory table transposed, and for each batch entry the first
  position of the greatest score and whether the inverse of the softmax's total exceeds the threshold.
-/
module

public import proofs.«01_k».proof.Proof.Fold
public import proofs.«01_k».proof.Proof.Meta

@[expose] public section

noncomputable section

namespace Cert.KernelIdeal.Step

open Cert.KernelIdeal Cert.KernelIdeal.Gen Cert.KernelIdeal.Value Idealize.ShloMosaic Idealize.ShloMosaic.TcCoe Idealize.SL.Sem Cert.Online

variable (m : (ℓ : Loc nD τ sig) → Buf (Elt Ideal) ℓ) (c : Dev nD)

theorem fold0 (hw : RealW m c) (n : ℕ) (hn : n < cfg0.N) (h) :
    (Pipeline.accAt (fun n h => stAt0 m c n h junk0) (stAt0 m c) 0 n h).1 = (iblk m c 0 ⟨n, hn⟩ : Vec Ideal S1153x1024 .f32) :=
  (congrArg Prod.fst (outsAt0_sweep m c n hn).symm).trans (holds m c hw n hn).2

/-- The first result. -/
theorem memT_eq (hw : RealW m c) : G5 m c = transpose S1153x8192 [1, 0] (aMem m c) transposes_S8192x1153_S1153x8192_1_0 := by
  funext i
  have h0 : (i 0).val < 1153 := (i 0).isLt
  have h1 : (i 1).val < 8192 := (i 1).isLt
  have hN : cfg0.N = 8 := N_0
  have hp : pt5Of i = (i 1).val / 1024 := by
    show 8 * ((i 0).val / 1153 - 0) + 1 * ((i 1).val / 1024 - 0) = _
    omega
  have hlt : pt5Of i < cfg0.N := by rw [hp]; omega
  unfold G5
  rw [dif_pos hlt, fold0 m c hw _ hlt]
  have e : i = ValueIdx.ix2 (⟨(i 0).val, h0⟩ : Fin 1153) (⟨(i 1).val, h1⟩ : Fin 8192) := by
    funext a
    match a with
    | ⟨0, _⟩ => rfl
    | ⟨1, _⟩ => rfl
  have el : loc5Of i = ValueIdx.ix2 (⟨(i 0).val, h0⟩ : Fin 1153) (⟨(i 1).val % 1024, Nat.mod_lt _ (by decide)⟩ : Fin 1024) := by
    funext a
    match a with
    | ⟨0, _⟩ => exact Fin.ext (Nat.mod_eq_of_lt h0)
    | ⟨1, _⟩ => rfl
  rw [el, blk0]
  conv_rhs => rw [e]
  rw [ValueIdx.transpose_ix2_apply]
  refine congrArg (fun q : Fin 8192 => aMem m c (ValueIdx.ix2 q (⟨(i 0).val, h0⟩ : Fin 1153))) (Fin.ext ?_)
  show 1024 * (pt5Of i) + (i 1).val % 1024 = (i 1).val
  rw [hp]
  omega

theorem seven : 7 < cfg0.N := lt_of_lt_of_eq (by decide) N_0.symm

/-- After a last point the row written is the packed row of the state. -/
theorem last_row (hw : RealW m c) : ∀ (n : ℕ) (hn : n < cfg0.N), n % 8 = 7 →
    (outsAt0 m c n hn).2.1 = metaOf (aThr m c ValueIdx.ix0) lanes16 (outsAt0 m c n hn).2.2.2.2.1 (outsAt0 m c n hn).2.2.2.2.2
  | 0, _, h => absurd h (by decide)
  | n + 1, hn, h => by
    rw [outsAt0_succ m c n hn]
    exact (holds_C m c hw ⟨n + 1, hn⟩ _ (fun h' => by dsimp only at h'; omega) h (holds m c hw n (Nat.lt_of_succ_lt hn)).1).2.2

/-- The second result: the two halves, from the state after the last point. -/
theorem meta_state (hw : RealW m c) : ∃ s : St, Holds m c 8192 s
    ∧ G6 m c = metaOf (aThr m c ValueIdx.ix0) lanes16 s.2.2.2.2.1 s.2.2.2.2.2 := by
  refine ⟨outsAt0 m c 7 seven, (holds m c hw 7 seven).1, ?_⟩
  refine (G6_last m c).trans (Eq.trans ?_ (last_row m c hw 7 seven (by decide)))
  exact congrArg (fun s : St => s.2.1) (outsAt0_sweep m c 7 seven).symm

theorem ofBits_one : Ideal.ofBits .f32 0x3F800000#32 = (1 : EReal) := by
  simp [Ideal.ofBits, Ideal.ieee, -EReal.coe_mul]
  norm_num

/-- The second result read: the first greatest position `k` of each batch entry's scores, and the mask. -/
theorem meta_at (hw : RealW m c) (b : Fin 8) : ∃ k, FirstMax (srow m c b) 8192 k
    ∧ G6 m c (ValueIdx.ix2 (0 : Fin 1) (⟨b.val, by omega⟩ : Fin 16)) = BitVec.ofNat 32 k
    ∧ G6 m c (ValueIdx.ix2 (0 : Fin 1) (⟨8 + b.val, by omega⟩ : Fin 16))
      = BitVec.setWidth 32 (BitVec.ofBool (decide ((aThr m c ValueIdx.ix0 : EReal)
          < ((1 / (∑ j ∈ Finset.range 8192, Real.exp (srow m c b j - srow m c b k)) : ℝ) : EReal)))) := by
  obtain ⟨s, H, e⟩ := meta_state m c hw
  obtain ⟨k, hk, -, hl, ha⟩ := (H.inv (at8 b.val b.isLt)).ex
  have hb : bi (at8 b.val b.isLt) = b := rfl
  rw [hb] at hk hl
  refine ⟨k, hk, ?_, ?_⟩
  · rw [e, metaOf_lo, ha]
  · have hp : 0 < ∑ j ∈ Finset.range 8192, Real.exp (srow m c b j - srow m c b k) :=
      Finset.sum_pos (fun _ _ => Real.exp_pos _) ⟨0, Finset.mem_range.mpr (by decide)⟩
    rw [e, metaOf_hi, hl]
    have hd : Scalar.divf (F := Ideal) (FloatOps.ofBits FTy.f32 0x3F800000#32)
        ((∑ j ∈ Finset.range 8192, Real.exp (srow m c b j - srow m c b k) : ℝ) : EReal)
        = (((1 / (∑ j ∈ Finset.range 8192, Real.exp (srow m c b j - srow m c b k)) : ℝ)) : EReal) := by
      show Ideal.div (Ideal.ofBits .f32 0x3F800000#32) _ = _
      rw [ofBits_one, Ideal.div_coe hp.ne', one_mul]
    rw [hd]
    show Scalar.select (BitVec.ofBool (decide (_ < _))) 1#32 0#32 = _
    generalize (BitVec.ofBool _) = q
    rcases bit_cases q with rfl | rfl <;> rfl

end Cert.KernelIdeal.Step
-- ==== Proof.RefRun.lean ====
/- The reference's run: its operations as five lists in program order (scores, softmax, position of the greatest
   weight, the weight there, mask and joined result), and what each list leaves in the buffers that later ones read. -/
module

public import proofs.«01_k».proof.Proof.Gen.ReferenceIdeal
public import Idealize.ShloMosaic.Lib.StableHlo.Run
public import Idealize.ShloMosaic.Lib.Pipeline.Frame

@[expose] public section

set_option maxRecDepth 4096

noncomputable section

namespace Cert.ReferenceIdeal.Ref

open Cert.ReferenceIdeal Idealize.ShloMosaic Idealize.ShloMosaic.TcCoe Idealize.SL.Sem StableHlo
open Facts₀ Facts

variable {F : FTy → Type} [FloatOps F]

/-- The operations that compute the scores of every row of the memory for every batch entry. -/
abbrev opsA : List (HloOp τ sig (Elt F)) :=
  [ unary main_arg1 main_v0 ((extractStridedSlice S1153x1153 ![0, 1153] · slices_S1153x2306_S1153x1153_0_1153) : (⟨S1153x2306, .f32⟩ : BufTy).Contents (Elt F) → (⟨S1153x1153, .f32⟩ : BufTy).Contents (Elt F)),
    unary main_arg2 main_v1 ((transpose S8x1153 [1, 0] · transposes_S1153x8_S8x1153_1_0) : (⟨S1153x8, .f32⟩ : BufTy).Contents (Elt F) → (⟨S8x1153, .f32⟩ : BufTy).Contents (Elt F)),
    unary main_v0 main_v2 ((transpose S1153x1153 [1, 0] · transposes_S1153x1153_S1153x1153_1_0) : (⟨S1153x1153, .f32⟩ : BufTy).Contents (Elt F) → (⟨S1153x1153, .f32⟩ : BufTy).Contents (Elt F)),
    binary main_arg0 main_v2 main_v3 ((fun l r => Host.dotGeneral dot_S8192x1153_S1153x1153_S8192x1153_1_0_0_1_n_n none l r) : (⟨S8192x1153, .f32⟩ : BufTy).Contents (Elt F) → (⟨S1153x1153, .f32⟩ : BufTy).Contents (Elt F) → (⟨S8192x1153, .f32⟩ : BufTy).Contents (Elt F)),
    unary main_v1 main_v4 (broadcastInDim S8x1x1153 ![0, 2] bcast_S8x1153_S8x1x1153_0_2 : (⟨S8x1153, .f32⟩ : BufTy).Contents (Elt F) → (⟨S8x1x1153, .f32⟩ : BufTy).Contents (Elt F)),
    unary main_v3 main_v5 (broadcastInDim S1x8192x1153 ![1, 2] bcast_S8192x1153_S1x8192x1153_1_2 : (⟨S8192x1153, .f32⟩ : BufTy).Contents (Elt F) → (⟨S1x8192x1153, .f32⟩ : BufTy).Contents (Elt F)),
    unary main_v4 main_v6 (broadcastInDim S8x8192x1153 ![0, 1, 2] bcast_S8x1x1153_S8x8192x1153_0_1_2 : (⟨S8x1x1153, .f32⟩ : BufTy).Contents (Elt F) → (⟨S8x8192x1153, .f32⟩ : BufTy).Contents (Elt F)),
    unary main_v5 main_v7 (broadcastInDim S8x8192x1153 ![0, 1, 2] bcast_S1x8192x1153_S8x8192x1153_0_1_2 : (⟨S1x8192x1153, .f32⟩ : BufTy).Contents (Elt F) → (⟨S8x8192x1153, .f32⟩ : BufTy).Contents (Elt F)),
    binary main_v6 main_v7 main_v8 (addf : (⟨S8x8192x1153, .f32⟩ : BufTy).Contents (Elt F) → (⟨S8x8192x1153, .f32⟩ : BufTy).Contents (Elt F) → (⟨S8x8192x1153, .f32⟩ : BufTy).Contents (Elt F)),
    unary main_v8 main_v9 (Host.tanh : (⟨S8x8192x1153, .f32⟩ : BufTy).Contents (Elt F) → (⟨S8x8192x1153, .f32⟩ : BufTy).Contents (Elt F)),
    binary main_v9 main_arg3 main_v10 ((fun l r => Host.dotGeneral dot_S8x8192x1153_S1x1153_S8x8192x1_2_1_01_0_n_n none l r) : (⟨S8x8192x1153, .f32⟩ : BufTy).Contents (Elt F) → (⟨S1x1153, .f32⟩ : BufTy).Contents (Elt F) → (⟨S8x8192x1, .f32⟩ : BufTy).Contents (Elt F)),
    reshape main_v10 main_v11 (rfl : (.f32 : EltTy) = .f32) shapeCasts_S8x8192x1_S8x8192,
    reshape main_arg4 main_v12 (rfl : (.f32 : EltTy) = .f32) shapeCasts_S1_S_,
    unary main_v12 main_v13 (broadcastInDim S8x8192 ![] bcast_S_S8x8192 : (⟨S_, .f32⟩ : BufTy).Contents (Elt F) → (⟨S8x8192, .f32⟩ : BufTy).Contents (Elt F)),
    binary main_v11 main_v13 main_v14 (addf : (⟨S8x8192, .f32⟩ : BufTy).Contents (Elt F) → (⟨S8x8192, .f32⟩ : BufTy).Contents (Elt F) → (⟨S8x8192, .f32⟩ : BufTy).Contents (Elt F)) ]

/-- The operations that compute the softmax over the rows. -/
abbrev opsB : List (HloOp τ sig (Elt F)) :=
  [ nullary main_cst (constant S_ .f32 0xFF800000#32),
    binary main_v14 main_cst main_v15 ((fun x v => Host.reduce FloatOps.maximumf x v reducesTo_S8x8192_S8_d1 h_S_) : (⟨S8x8192, .f32⟩ : BufTy).Contents (Elt F) → (⟨S_, .f32⟩ : BufTy).Contents (Elt F) → (⟨S8, .f32⟩ : BufTy).Contents (Elt F)),
    nullary main_cst_0 (constant S_ .f32 0xFF800000#32),
    unary main_cst_0 main_v16 (broadcastInDim S8 ![] bcast_S_S8 : (⟨S_, .f32⟩ : BufTy).Contents (Elt F) → (⟨S8, .f32⟩ : BufTy).Contents (Elt F)),
    binary main_v16 main_v15 main_v17 (maximumf : (⟨S8, .f32⟩ : BufTy).Contents (Elt F) → (⟨S8, .f32⟩ : BufTy).Contents (Elt F) → (⟨S8, .f32⟩ : BufTy).Contents (Elt F)),
    unary main_v17 main_v18 (broadcastInDim S8x1 ![0] bcast_S8_S8x1_0 : (⟨S8, .f32⟩ : BufTy).Contents (Elt F) → (⟨S8x1, .f32⟩ : BufTy).Contents (Elt F)),
    unary main_v18 main_v19 (broadcastInDim S8x8192 ![0, 1] bcast_S8x1_S8x8192_0_1 : (⟨S8x1, .f32⟩ : BufTy).Contents (Elt F) → (⟨S8x8192, .f32⟩ : BufTy).Contents (Elt F)),
    binary main_v14 main_v19 main_v20 (subf : (⟨S8x8192, .f32⟩ : BufTy).Contents (Elt F) → (⟨S8x8192, .f32⟩ : BufTy).Contents (Elt F) → (⟨S8x8192, .f32⟩ : BufTy).Contents (Elt F)),
    unary main_v20 main_v21 (Host.exp : (⟨S8x8192, .f32⟩ : BufTy).Contents (Elt F) → (⟨S8x8192, .f32⟩ : BufTy).Contents (Elt F)),
    nullary main_cst_1 (constant S_ .f32 0x00000000#32),
    binary main_v21 main_cst_1 main_v22 ((fun x v => Host.reduceAdd x v reducesTo_S8x8192_S8_d1 h_S_) : (⟨S8x8192, .f32⟩ : BufTy).Contents (Elt F) → (⟨S_, .f32⟩ : BufTy).Contents (Elt F) → (⟨S8, .f32⟩ : BufTy).Contents (Elt F)),
    unary main_v22 main_v23 (broadcastInDim S8x1 ![0] bcast_S8_S8x1_0 : (⟨S8, .f32⟩ : BufTy).Contents (Elt F) → (⟨S8x1, .f32⟩ : BufTy).Contents (Elt F)),
    unary main_v23 main_v24 (broadcastInDim S8x8192 ![0, 1] bcast_S8x1_S8x8192_0_1 : (⟨S8x1, .f32⟩ : BufTy).Contents (Elt F) → (⟨S8x8192, .f32⟩ : BufTy).Contents (Elt F)),
    binary main_v21 main_v24 main_v25 (Host.divf : (⟨S8x8192, .f32⟩ : BufTy).Contents (Elt F) → (⟨S8x8192, .f32⟩ : BufTy).Contents (Elt F) → (⟨S8x8192, .f32⟩ : BufTy).Contents (Elt F)) ]

/-- The operations that compute the position of the greatest weight. -/
abbrev opsC : List (HloOp τ sig (Elt F)) :=
  [ TRef.nullary main_call0.v0 (iotaInDim S8x8192 32 1),
    TRef.nullary main_call0.cst (constant S_ .f32 0xFF800000#32),
    TRef.nullary main_call0.c (constantI S_ 32 0#32),
    TRef.quaternary (.of main_v25 rfl) main_call0.v0 main_call0.cst main_call0.c main_call0.v1_0 (fun x y u v j => (Host.argReduce reducer_argmax_f32_i32 x y u v reducesTo_S8x8192_S8_d1 h_S_ j).1),
    TRef.quaternary (.of main_v25 rfl) main_call0.v0 main_call0.cst main_call0.c main_call0.v1_1 (fun x y u v j => (Host.argReduce reducer_argmax_f32_i32 x y u v reducesTo_S8x8192_S8_d1 h_S_ j).2) ]

/-- The operations that compute the weight at that position. -/
abbrev opsD : List (HloOp τ sig (Elt F)) :=
  [ unary main_v26 main_v27 (broadcastInDim S8x1 ![0] bcast_S8_S8x1_0 : (⟨S8, .i32⟩ : BufTy).Contents (Elt F) → (⟨S8x1, .i32⟩ : BufTy).Contents (Elt F)),
    TRef.nullary main_call1.c (constantI S_ 32 0#32),
    TRef.unary main_call1.c main_call1.v0 (broadcastInDim S8x1 ![] bcast_S_S8x1),
    TRef.binary (.of main_v27 rfl) main_call1.v0 main_call1.v1 (cmpi .slt),
    TRef.nullary main_call1.c_0 (constantI S_ 32 8192#32),
    TRef.unary main_call1.c_0 main_call1.v2 (broadcastInDim S8x1 ![] bcast_S_S8x1),
    TRef.binary (.of main_v27 rfl) main_call1.v2 main_call1.v3 addi,
    TRef.ternary main_call1.v1 main_call1.v3 (.of main_v27 rfl) main_call1.v4 select,
    TRef.reshape main_call1.v4 main_call1.v5 (rfl : (.i32 : EltTy) = .i32) shapeCasts_S8x1_S8x1x1,
    TRef.nullary main_call1.c_1 (constantI S1 32 8191#32),
    TRef.nullary main_call1.c_2 (constantI S_ 32 0#32),
    TRef.unary main_call1.c_2 main_call1.v6 (broadcastInDim S8x1x1 ![] bcast_S_S8x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8x1x1 ![0, 1, 2] bcast_S1x1x1_S8x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x1x1_S8x1_d2 h_S_),
    TRef.binary (.of main_v25 rfl) main_call1.v5 main_call1.v13 (fun x i => Host.gather gather_S8x8192_S8x1x1_S8x1_n_1_0_0_1_2_11 x i),
    TRef.nullary main_call1.cst (constant S_ .f32 0x7FC00000#32),
    TRef.unary main_call1.cst main_call1.v14 (broadcastInDim S8x1 ![] bcast_S_S8x1),
    TRef.ternary main_call1.v12 main_call1.v13 main_call1.v14 main_call1.v15 select ]

/-- The operations that compute the mask, the joined result and the transposed memory. -/
abbrev opsE : List (HloOp τ sig (Elt F)) :=
  [ reshape main_v28 main_v29 (rfl : (.f32 : EltTy) = .f32) shapeCasts_S8x1_S8,
    unary main_arg5 main_v30 (broadcastInDim S8 ![] bcast_S_S8 : (⟨S_, .f32⟩ : BufTy).Contents (Elt F) → (⟨S8, .f32⟩ : BufTy).Contents (Elt F)),
    binary main_v29 main_v30 main_v31 (cmpf .ogt : (⟨S8, .f32⟩ : BufTy).Contents (Elt F) → (⟨S8, .f32⟩ : BufTy).Contents (Elt F) → (⟨S8, .i1⟩ : BufTy).Contents (Elt F)),
    unary main_v31 main_v32 ((extui 32 · natLt_1_32) : (⟨S8, .i1⟩ : BufTy).Contents (Elt F) → (⟨S8, .i32⟩ : BufTy).Contents (Elt F)),
    binary main_v26 main_v32 main_v33 ((fun a b => concatenate S16 0 [⟨S8, a⟩, ⟨S8, b⟩] concatenates_S8_S8_S16_d0) : (⟨S8, .i32⟩ : BufTy).Contents (Elt F) → (⟨S8, .i32⟩ : BufTy).Contents (Elt F) → (⟨S16, .i32⟩ : BufTy).Contents (Elt F)),
    unary main_v33 main_v34 (broadcastInDim S1x16 ![1] bcast_S16_S1x16_1 : (⟨S16, .i32⟩ : BufTy).Contents (Elt F) → (⟨S1x16, .i32⟩ : BufTy).Contents (Elt F)),
    unary main_arg0 main_v35 ((transpose S1153x8192 [1, 0] · transposes_S8192x1153_S1153x8192_1_0) : (⟨S8192x1153, .f32⟩ : BufTy).Contents (Elt F) → (⟨S1153x8192, .f32⟩ : BufTy).Contents (Elt F)) ]

/-- The scores as the reference composes them. -/
def scores (arg0 : FVec F S8192x1153 .f32) (arg1 : FVec F S1153x2306 .f32) (arg2 : FVec F S1153x8 .f32) (arg3 : FVec F S1x1153 .f32) (arg4 : FVec F S1 .f32) : FVec F S8x8192 .f32 :=
  let v0 := ((extractStridedSlice S1153x1153 ![0, 1153] · slices_S1153x2306_S1153x1153_0_1153)) arg1
  let v1 := ((transpose S8x1153 [1, 0] · transposes_S1153x8_S8x1153_1_0)) arg2
  let v2 := ((transpose S1153x1153 [1, 0] · transposes_S1153x1153_S1153x1153_1_0)) v0
  let v3 := ((fun l r => Host.dotGeneral dot_S8192x1153_S1153x1153_S8192x1153_1_0_0_1_n_n none l r)) arg0 v2
  let v4 := (broadcastInDim S8x1x1153 ![0, 2] bcast_S8x1153_S8x1x1153_0_2) v1
  let v5 := (broadcastInDim S1x8192x1153 ![1, 2] bcast_S8192x1153_S1x8192x1153_1_2) v3
  let v6 := (broadcastInDim S8x8192x1153 ![0, 1, 2] bcast_S8x1x1153_S8x8192x1153_0_1_2) v4
  let v7 := (broadcastInDim S8x8192x1153 ![0, 1, 2] bcast_S1x8192x1153_S8x8192x1153_0_1_2) v5
  let v8 := (addf) v6 v7
  let v9 := (Host.tanh) v8
  let v10 := ((fun l r => Host.dotGeneral dot_S8x8192x1153_S1x1153_S8x8192x1_2_1_01_0_n_n none l r)) v9 arg3
  let v11 := shapeCast S8x8192 v10 shapeCasts_S8x8192x1_S8x8192
  let v12 := shapeCast S_ arg4 shapeCasts_S1_S_
  let v13 := (broadcastInDim S8x8192 ![] bcast_S_S8x8192) v12
  let v14 := (addf) v11 v13
  v14

/-- The softmax weights as the reference composes them. -/
def weights (v14 : FVec F S8x8192 .f32) : FVec F S8x8192 .f32 :=
  let cst := (constant S_ .f32 0xFF800000#32)
  let v15 := ((fun x v => Host.reduce FloatOps.maximumf x v reducesTo_S8x8192_S8_d1 h_S_)) v14 cst
  let cst_0 := (constant S_ .f32 0xFF800000#32)
  let v16 := (broadcastInDim S8 ![] bcast_S_S8) cst_0
  let v17 := (maximumf) v16 v15
  let v18 := (broadcastInDim S8x1 ![0] bcast_S8_S8x1_0) v17
  let v19 := (broadcastInDim S8x8192 ![0, 1] bcast_S8x1_S8x8192_0_1) v18
  let v20 := (subf) v14 v19
  let v21 := (Host.exp) v20
  let cst_1 := (constant S_ .f32 0x00000000#32)
  let v22 := ((fun x v => Host.reduceAdd x v reducesTo_S8x8192_S8_d1 h_S_)) v21 cst_1
  let v23 := (broadcastInDim S8x1 ![0] bcast_S8_S8x1_0) v22
  let v24 := (broadcastInDim S8x8192 ![0, 1] bcast_S8x1_S8x8192_0_1) v23
  let v25 := (Host.divf) v21 v24
  v25

/-- The position of the greatest weight. -/
def best (v25 : FVec F S8x8192 .f32) : IVec S8 32 :=
  let a_v0 := (iotaInDim S8x8192 32 1)
  let a_cst := (constant S_ .f32 0xFF800000#32)
  let a_c := (constantI S_ 32 0#32)
  let v26 := ((fun x y u v j => (Host.argReduce reducer_argmax_f32_i32 x y u v reducesTo_S8x8192_S8_d1 h_S_ j).2)) v25 a_v0 a_cst a_c
  v26

/-- The weight gathered at a position. -/
def bestWeight (v25 : FVec F S8x8192 .f32) (v26 : IVec S8 32) : FVec F S8x1 .f32 :=
  let v27 := (broadcastInDim S8x1 ![0] bcast_S8_S8x1_0) v26
  let g_c := (constantI S_ 32 0#32)
  let g_v0 := ((broadcastInDim S8x1 ![] bcast_S_S8x1)) g_c
  let g_v1 := ((cmpi .slt)) v27 g_v0
  let g_c_0 := (constantI S_ 32 8192#32)
  let g_v2 := ((broadcastInDim S8x1 ![] bcast_S_S8x1)) g_c_0
  let g_v3 := (addi) v27 g_v2
  let g_v4 := (select) g_v1 g_v3 v27
  let g_v5 := shapeCast S8x1x1 g_v4 shapeCasts_S8x1_S8x1x1
  let g_c_1 := (constantI S1 32 8191#32)
  let g_c_2 := (constantI S_ 32 0#32)
  let g_v6 := ((broadcastInDim S8x1x1 ![] bcast_S_S8x1x1)) g_c_2
  let g_v7 := ((cmpi .sge)) g_v5 g_v6
  let g_v8 := ((broadcastInDim S1x1x1 ![2] bcast_S1_S1x1x1_2)) g_c_1
  let g_v9 := ((broadcastInDim S8x1x1 ![0, 1, 2] bcast_S1x1x1_S8x1x1_0_1_2)) g_v8
  let g_v10 := ((cmpi .sle)) g_v5 g_v9
  let g_v11 := (andi) g_v7 g_v10
  let g_c_3 := (constantI S_ 1 1#1)
  let g_v12 := ((fun x v => Host.reduce IntOp.andi x v reducesTo_S8x1x1_S8x1_d2 h_S_)) g_v11 g_c_3
  let g_v13 := ((fun x i => Host.gather gather_S8x8192_S8x1x1_S8x1_n_1_0_0_1_2_11 x i)) v25 g_v5
  let g_cst := (constant S_ .f32 0x7FC00000#32)
  let g_v14 := ((broadcastInDim S8x1 ![] bcast_S_S8x1)) g_cst
  let v28 := (select) g_v12 g_v13 g_v14
  v28

/-- The joined positions and mask. -/
def joined (v26 : IVec S8 32) (v28 : FVec F S8x1 .f32) (arg5 : FVec F S_ .f32) : IVec S1x16 32 :=
  let v29 := shapeCast S8 v28 shapeCasts_S8x1_S8
  let v30 := (broadcastInDim S8 ![] bcast_S_S8) arg5
  let v31 := (cmpf .ogt) v29 v30
  let v32 := ((extui 32 · natLt_1_32)) v31
  let v33 := ((fun a b => concatenate S16 0 [⟨S8, a⟩, ⟨S8, b⟩] concatenates_S8_S8_S16_d0)) v26 v32
  let v34 := (broadcastInDim S1x16 ![1] bcast_S16_S1x16_1) v33
  v34

variable (V : Valuation τ sig (Elt F))

theorem afterA : after opsA V (main_v14 : DevRef τ sig) = scores (V (main_arg0 : DevRef τ sig)) (V (main_arg1 : DevRef τ sig)) (V (main_arg2 : DevRef τ sig)) (V (main_arg3 : DevRef τ sig)) (V (main_arg4 : DevRef τ sig)) := by
  after_results_simp
  rfl

theorem afterB : after opsB V (main_v25 : DevRef τ sig) = weights (V (main_v14 : DevRef τ sig)) := by
  after_results_simp
  rfl

theorem afterC : after opsC V (main_v26 : DevRef τ sig) = best (V (main_v25 : DevRef τ sig)) := by
  after_results_simp
  rfl

theorem afterD : after opsD V (main_v28 : DevRef τ sig) = bestWeight (V (main_v25 : DevRef τ sig)) (V (main_v26 : DevRef τ sig)) := by
  after_results_simp
  rfl

theorem afterE : after opsE V (main_v34 : DevRef τ sig) = joined (V (main_v26 : DevRef τ sig)) (V (main_v28 : DevRef τ sig)) (V (main_arg5 : DevRef τ sig)) := by
  after_results_simp
  rfl

theorem afterE' : after opsE V (main_v35 : DevRef τ sig) = transpose S1153x8192 [1, 0] (V (main_arg0 : DevRef τ sig)) transposes_S8192x1153_S1153x8192_1_0 := by
  after_results_simp

theorem keepA_arg0 : after opsA V (main_arg0 : DevRef τ sig) = V (main_arg0 : DevRef τ sig) := by
  after_results_simp

theorem keepA_arg1 : after opsA V (main_arg1 : DevRef τ sig) = V (main_arg1 : DevRef τ sig) := by
  after_results_simp

theorem keepA_arg2 : after opsA V (main_arg2 : DevRef τ sig) = V (main_arg2 : DevRef τ sig) := by
  after_results_simp

theorem keepA_arg3 : after opsA V (main_arg3 : DevRef τ sig) = V (main_arg3 : DevRef τ sig) := by
  after_results_simp

theorem keepA_arg4 : after opsA V (main_arg4 : DevRef τ sig) = V (main_arg4 : DevRef τ sig) := by
  after_results_simp

theorem keepA_arg5 : after opsA V (main_arg5 : DevRef τ sig) = V (main_arg5 : DevRef τ sig) := by
  after_results_simp

theorem keepB_arg0 : after opsB V (main_arg0 : DevRef τ sig) = V (main_arg0 : DevRef τ sig) := by
  after_results_simp

theorem keepB_arg1 : after opsB V (main_arg1 : DevRef τ sig) = V (main_arg1 : DevRef τ sig) := by
  after_results_simp

theorem keepB_arg2 : after opsB V (main_arg2 : DevRef τ sig) = V (main_arg2 : DevRef τ sig) := by
  after_results_simp

theorem keepB_arg3 : after opsB V (main_arg3 : DevRef τ sig) = V (main_arg3 : DevRef τ sig) := by
  after_results_simp

theorem keepB_arg4 : after opsB V (main_arg4 : DevRef τ sig) = V (main_arg4 : DevRef τ sig) := by
  after_results_simp

theorem keepB_arg5 : after opsB V (main_arg5 : DevRef τ sig) = V (main_arg5 : DevRef τ sig) := by
  after_results_simp

theorem keepC_arg0 : after opsC V (main_arg0 : DevRef τ sig) = V (main_arg0 : DevRef τ sig) := by
  after_results_simp

theorem keepC_arg1 : after opsC V (main_arg1 : DevRef τ sig) = V (main_arg1 : DevRef τ sig) := by
  after_results_simp

theorem keepC_arg2 : after opsC V (main_arg2 : DevRef τ sig) = V (main_arg2 : DevRef τ sig) := by
  after_results_simp

theorem keepC_arg3 : after opsC V (main_arg3 : DevRef τ sig) = V (main_arg3 : DevRef τ sig) := by
  after_results_simp

theorem keepC_arg4 : after opsC V (main_arg4 : DevRef τ sig) = V (main_arg4 : DevRef τ sig) := by
  after_results_simp

theorem keepC_arg5 : after opsC V (main_arg5 : DevRef τ sig) = V (main_arg5 : DevRef τ sig) := by
  after_results_simp

theorem keepC_v25 : after opsC V (main_v25 : DevRef τ sig) = V (main_v25 : DevRef τ sig) := by
  after_results_simp

theorem keepD_arg0 : after opsD V (main_arg0 : DevRef τ sig) = V (main_arg0 : DevRef τ sig) := by
  after_results_simp

theorem keepD_arg1 : after opsD V (main_arg1 : DevRef τ sig) = V (main_arg1 : DevRef τ sig) := by
  after_results_simp

theorem keepD_arg2 : after opsD V (main_arg2 : DevRef τ sig) = V (main_arg2 : DevRef τ sig) := by
  after_results_simp

theorem keepD_arg3 : after opsD V (main_arg3 : DevRef τ sig) = V (main_arg3 : DevRef τ sig) := by
  after_results_simp

theorem keepD_arg4 : after opsD V (main_arg4 : DevRef τ sig) = V (main_arg4 : DevRef τ sig) := by
  after_results_simp

theorem keepD_arg5 : after opsD V (main_arg5 : DevRef τ sig) = V (main_arg5 : DevRef τ sig) := by
  after_results_simp

theorem keepD_v26 : after opsD V (main_v26 : DevRef τ sig) = V (main_v26 : DevRef τ sig) := by
  after_results_simp

theorem keepE_arg0 : after opsE V (main_arg0 : DevRef τ sig) = V (main_arg0 : DevRef τ sig) := by
  after_results_simp

theorem keepE_arg1 : after opsE V (main_arg1 : DevRef τ sig) = V (main_arg1 : DevRef τ sig) := by
  after_results_simp

theorem keepE_arg2 : after opsE V (main_arg2 : DevRef τ sig) = V (main_arg2 : DevRef τ sig) := by
  after_results_simp

theorem keepE_arg3 : after opsE V (main_arg3 : DevRef τ sig) = V (main_arg3 : DevRef τ sig) := by
  after_results_simp

theorem keepE_arg4 : after opsE V (main_arg4 : DevRef τ sig) = V (main_arg4 : DevRef τ sig) := by
  after_results_simp

theorem keepE_arg5 : after opsE V (main_arg5 : DevRef τ sig) = V (main_arg5 : DevRef τ sig) := by
  after_results_simp

/-- All the reference's operations. -/
abbrev ops : List (HloOp τ sig (Elt F)) := opsA ++ (opsB ++ (opsC ++ (opsD ++ opsE)))

set_option maxRecDepth 8192 in
theorem main_eq (c : Dev nD) : main (F := F) c = seq ops := by
  simp only [main, fn_argmax.body, fn_take_along_axis.body, seq, bind_assoc, pure_bind, List.cons_append, List.nil_append]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig := by
  simp only [opsA, List.Forall]
  repeat' apply And.intro
  all_goals first | with_reducible exact reshape_bufs_sub .. | with_reducible exact unary_bufs_sub .. | with_reducible exact binary_bufs_sub .. | with_reducible exact nullary_bufs_sub .. | with_reducible exact ternary_bufs_sub .. | with_reducible exact quaternary_bufs_sub ..

theorem opsB_sub : (opsB : List (HloOp τ sig (Elt F))).Forall fun op => op.bufs ⊆ tcRefs τ sig := by
  simp only [opsB, List.Forall]
  repeat' apply And.intro
  all_goals first | with_reducible exact reshape_bufs_sub .. | with_reducible exact unary_bufs_sub .. | with_reducible exact binary_bufs_sub .. | with_reducible exact nullary_bufs_sub .. | with_reducible exact ternary_bufs_sub .. | with_reducible exact quaternary_bufs_sub ..

theorem opsC_sub : (opsC : List (HloOp τ sig (Elt F))).Forall fun op => op.bufs ⊆ tcRefs τ sig := by
  simp only [opsC, List.Forall]
  repeat' apply And.intro
  all_goals first | with_reducible exact reshape_bufs_sub .. | with_reducible exact unary_bufs_sub .. | with_reducible exact binary_bufs_sub .. | with_reducible exact nullary_bufs_sub .. | with_reducible exact ternary_bufs_sub .. | with_reducible exact quaternary_bufs_sub ..

theorem opsD_sub : (opsD : List (HloOp τ sig (Elt F))).Forall fun op => op.bufs ⊆ tcRefs τ sig := by
  simp only [opsD, List.Forall]
  repeat' apply And.intro
  all_goals first | with_reducible exact reshape_bufs_sub .. | with_reducible exact unary_bufs_sub .. | with_reducible exact binary_bufs_sub .. | with_reducible exact nullary_bufs_sub .. | with_reducible exact ternary_bufs_sub .. | with_reducible exact quaternary_bufs_sub ..

theorem opsE_sub : (opsE : List (HloOp τ sig (Elt F))).Forall fun op => op.bufs ⊆ tcRefs τ sig := by
  simp only [opsE, List.Forall]
  repeat' apply And.intro
  all_goals first | with_reducible exact reshape_bufs_sub .. | with_reducible exact unary_bufs_sub .. | with_reducible exact binary_bufs_sub .. | with_reducible exact nullary_bufs_sub .. | with_reducible exact ternary_bufs_sub .. | with_reducible exact quaternary_bufs_sub ..

theorem ops_sub : (ops : List (HloOp τ sig (Elt F))).Forall fun op => op.bufs ⊆ tcRefs τ sig :=
  List.forall_append.mpr ⟨opsA_sub, List.forall_append.mpr ⟨opsB_sub, List.forall_append.mpr ⟨opsC_sub, List.forall_append.mpr ⟨opsD_sub, opsE_sub⟩⟩⟩⟩

theorem keep_arg0 (V : Valuation τ sig (Elt F)) : after ops V (main_arg0 : DevRef τ sig) = V (main_arg0 : DevRef τ sig) := by
  rw [ops, after_append, after_append, after_append, after_append, keepE_arg0, keepD_arg0, keepC_arg0, keepB_arg0, keepA_arg0]

theorem keep_arg1 (V : Valuation τ sig (Elt F)) : after ops V (main_arg1 : DevRef τ sig) = V (main_arg1 : DevRef τ sig) := by
  rw [ops, after_append, after_append, after_append, after_append, keepE_arg1, keepD_arg1, keepC_arg1, keepB_arg1, keepA_arg1]

theorem keep_arg2 (V : Valuation τ sig (Elt F)) : after ops V (main_arg2 : DevRef τ sig) = V (main_arg2 : DevRef τ sig) := by
  rw [ops, after_append, after_append, after_append, after_append, keepE_arg2, keepD_arg2, keepC_arg2, keepB_arg2, keepA_arg2]

theorem keep_arg3 (V : Valuation τ sig (Elt F)) : after ops V (main_arg3 : DevRef τ sig) = V (main_arg3 : DevRef τ sig) := by
  rw [ops, after_append, after_append, after_append, after_append, keepE_arg3, keepD_arg3, keepC_arg3, keepB_arg3, keepA_arg3]

theorem keep_arg4 (V : Valuation τ sig (Elt F)) : after ops V (main_arg4 : DevRef τ sig) = V (main_arg4 : DevRef τ sig) := by
  rw [ops, after_append, after_append, after_append, after_append, keepE_arg4, keepD_arg4, keepC_arg4, keepB_arg4, keepA_arg4]

theorem keep_arg5 (V : Valuation τ sig (Elt F)) : after ops V (main_arg5 : DevRef τ sig) = V (main_arg5 : DevRef τ sig) := by
  rw [ops, after_append, after_append, after_append, after_append, keepE_arg5, keepD_arg5, keepC_arg5, keepB_arg5, keepA_arg5]

/-- The first result: the memory transposed. -/
theorem out0_eq (V : Valuation τ sig (Elt F)) : after ops V (main_v35 : DevRef τ sig)
    = transpose S1153x8192 [1, 0] (V (main_arg0 : DevRef τ sig)) transposes_S8192x1153_S1153x8192_1_0 := by
  rw [ops, after_append, after_append, after_append, after_append, afterE', keepD_arg0, keepC_arg0, keepB_arg0, keepA_arg0]

/-- The second result over given softmax weights. -/
def tail (w : FVec F S8x8192 .f32) (thr : FVec F S_ .f32) : IVec S1x16 32 :=
  joined (best w) (bestWeight w (best w)) thr

/-- The second result: the positions and the mask of the softmax of the scores. -/
theorem out1_eq (V : Valuation τ sig (Elt F)) : after ops V (main_v34 : DevRef τ sig)
    = tail (weights (scores (V (main_arg0 : DevRef τ sig)) (V (main_arg1 : DevRef τ sig)) (V (main_arg2 : DevRef τ sig))
        (V (main_arg3 : DevRef τ sig)) (V (main_arg4 : DevRef τ sig)))) (V (main_arg5 : DevRef τ sig)) := by
  rw [ops, after_append, after_append, after_append, after_append, afterE, afterD, keepD_v26, keepD_arg5, afterC, keepC_v25,
    keepC_arg5, afterB, keepB_arg5, afterA, keepA_arg5]
  rfl

/-- The reference's run: each result as composed of the arguments, the arguments as they were, the counters at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = transpose S1153x8192 [1, 0] (m ((c.tc : Thread nD τ).loc main_arg0)) transposes_S8192x1153_S1153x8192_1_0
      ∧ r.2.mem ((c.tc : Thread nD τ).loc main_v34) = tail (weights (scores (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v35).trans (out0_eq _), (h c main_v34).trans (out1_eq _), (h c main_arg0).trans (keep_arg0 _),
      (h c main_arg1).trans (keep_arg1 _), (h c main_arg2).trans (keep_arg2 _), (h c main_arg3).trans (keep_arg3 _),
      (h c main_arg4).trans (keep_arg4 _), (h c main_arg5).trans (keep_arg5 _)⟩)
    (run_seq scopedRefs_eq scopedSems_eq defs main (fun _ => ops) main_eq (fun _ => ops_sub) m ρ)

end Cert.ReferenceIdeal.Ref

end
-- ==== Proof.RefScore.lean ====
/-
  The reference's scores at the ideal values, entry by entry.
-/
module

public import proofs.«01_k».proof.Proof.RefRun
public import proofs.«01_k».proof.Proof.Score
public import Idealize.ShloMosaic.Lib.Pointwise

@[expose] public section

noncomputable section

namespace Cert.ReferenceIdeal.Ref

open Cert.ReferenceIdeal Cert.ReferenceIdeal.Gen Idealize.ShloMosaic Cert.Score

variable (a0 : FVec Ideal S8192x1153 .f32) (a1 : FVec Ideal S1153x2306 .f32) (a2 : FVec Ideal S1153x8 .f32)
    (a3 : FVec Ideal S1x1153 .f32) (a4 : FVec Ideal S1 .f32)

theorem scores_at (hw : ∀ f : Fin 1153, (a3 (ValueIdx.ix2 (0 : Fin 1) f) : EReal) ≠ ⊤ ∧ (a3 (ValueIdx.ix2 (0 : Fin 1) f) : EReal) ≠ ⊥)
    (b : Fin 8) (n : Fin 8192) :
    scores a0 a1 a2 a3 a4 (ValueIdx.ix2 b n) = ((rowScore a0 a1 a2 a3 b n.val : ℝ) : EReal) + (a4 (ValueIdx.ix1 (0 : Fin 1)) : EReal) := by
  unfold rowScore
  rw [← score_eq _ _ hw]
  unfold scores
  dsimp only
  simp only [pointwise, zero_add]
  have e : (⟨n.val % 8192, Nat.mod_lt _ (by decide)⟩ : Fin 8192) = n := Fin.ext (Nat.mod_eq_of_lt n.isLt)
  rw [e]
  refine congrArg₂ (fun x y : EReal => x + y) (Finset.sum_congr rfl fun f _ => ?_) (congrArg a4 (ix1_eq_valueIdx _))
  unfold hid
  rw [mul_comm, add_comm (a2 _ : EReal)]
  refine congrArg₂ (fun x y : EReal => x * y) (congrArg a3 (ix2_eq_valueIdx _ _)) (congrArg Ideal.tanh (congrArg₂ (fun x y : EReal => x + y)
    (Finset.sum_congr rfl fun k _ => ?_) ?_))
  · rw [mul_comm]
    refine congrArg₂ (fun x y : EReal => x * y) (congrArg a1 ?_) (congrArg a0 ?_)
    · funext a
      apply Fin.ext
      match a with
      | ⟨0, _⟩ => show 0 + f.val = f.val; omega
      | ⟨1, _⟩ => rfl
    · funext a
      match a with
      | ⟨0, _⟩ => rfl
      | ⟨1, _⟩ => rfl
  · refine congrArg a2 ?_
    funext a
    match a with
    | ⟨0, _⟩ => rfl
    | ⟨1, _⟩ => rfl

end Cert.ReferenceIdeal.Ref
-- ==== Proof.RefValue.lean ====
/-
  The reference's softmax weights, the position of the greatest, the weight there and the joined result at the ideal
  values, when the scores are real numbers.
-/
module

public import proofs.«01_k».proof.Proof.RefScore
public import proofs.«01_k».proof.Proof.Tile
public import Idealize.ShloMosaic.Lib.Pointwise
public import Idealize.ShloMosaic.PureOps.Reduce

@[expose] public section

set_option maxRecDepth 4096

noncomputable section

namespace Cert.ReferenceIdeal.Ref

open Cert.ReferenceIdeal Cert.ReferenceIdeal.Gen Idealize.ShloMosaic Cert.Score Cert.Online
open Cert.KernelIdeal.Step (fold_max_eq toInt_ofNat ofBits_bot)

/-- The sum of the exponentials of the scores relative to the greatest. -/
def total (s : ℕ → ℝ) (k : ℕ) : ℝ := ∑ j ∈ Finset.range 8192, Real.exp (s j - s k)

theorem total_pos (s : ℕ → ℝ) (k : ℕ) : 0 < total s k :=
  Finset.sum_pos (fun _ _ => Real.exp_pos _) ⟨0, Finset.mem_range.mpr (by decide)⟩

theorem weights_open (v : FVec Ideal S8x8192 .f32) (b : Fin 8) (n : Fin 8192) :
    weights v (ValueIdx.ix2 b n)
      = Ideal.div
          (Ideal.exp ((v (ValueIdx.ix2 b n) : EReal)
            - max (Ideal.ofBits .f32 0xFF800000#32)
                (Finset.univ.fold max (Ideal.ofBits .f32 0xFF800000#32) fun k : Fin 8192 => (v (ValueIdx.ix2 b k) : EReal))))
          (∑ q : Fin 8192, Ideal.exp ((v (ValueIdx.ix2 b q) : EReal)
            - max (Ideal.ofBits .f32 0xFF800000#32)
                (Finset.univ.fold max (Ideal.ofBits .f32 0xFF800000#32) fun k : Fin 8192 => (v (ValueIdx.ix2 b k) : EReal)))) := by
  unfold weights
  dsimp only
  simp only [pointwise, zero_add]
  have e : ∀ k : Fin 8192, Idealize.ShloMosaic.ix2 b k = ValueIdx.ix2 b k := fun k => ix2_eq_valueIdx b k
  simp only [← e]
  rfl

variable {v : FVec Ideal S8x8192 .f32} {s : ℕ → ℝ} {b : Fin 8} {k : ℕ}

/-- At real scores the weights are the real softmax. -/
theorem weights_at (hs : ∀ n : Fin 8192, (v (ValueIdx.ix2 b n) : EReal) = ((s n.val : ℝ) : EReal)) (hk : FirstMax s 8192 k) (n : Fin 8192) :
    (weights v (ValueIdx.ix2 b n) : EReal) = ((Real.exp (s n.val - s k) / total s k : ℝ) : EReal) := by
  refine (weights_open v b n).trans ?_
  simp only [hs, ofBits_bot]
  rw [fold_max_eq Finset.univ (fun q : Fin 8192 => ((s q.val : ℝ) : EReal)) ((s k : ℝ) : EReal) ⟨k, hk.lt⟩ (Finset.mem_univ _) rfl
    (fun j _ => EReal.coe_le_coe_iff.mpr (hk.le j.val j.isLt)), max_eq_right bot_le]
  simp only [← EReal.coe_sub, Ideal.exp_coe]
  rw [← coe_sum, Fin.sum_univ_eq_sum_range (fun j => Real.exp (s j - s k)) 8192]
  show Ideal.div _ ((total s k : ℝ) : EReal) = _
  rw [Ideal.div_coe (total_pos s k).ne', ← EReal.coe_mul, mul_one_div]

/-- Dividing exponentials by a positive number keeps the first greatest position. -/
theorem firstMax_weights (hk : FirstMax s 8192 k) : FirstMax (fun n => Real.exp (s n - s k) / total s k) 8192 k := by
  have hp := total_pos s k
  refine ⟨hk.lt, fun j hj => ?_, fun j hj h => hk.first j hj ?_⟩
  · exact div_le_div_of_nonneg_right (Real.exp_le_exp.mpr (sub_le_sub_right (hk.le j hj) _)) hp.le
  · have h' : Real.exp (s j - s k) = Real.exp (s k - s k) := by
      have e := congrArg (fun x => x * total s k) h
      simp only [div_mul_cancel₀ _ hp.ne'] at e
      exact e
    exact sub_left_injective (Real.exp_injective h')

/-- The step of the search for the greatest: the left pair where it is greater, or equal and earlier. -/
theorem reducer_eq (x y : Ideal .f32 × BitVec 32) :
    reducer_argmax_f32_i32 x y = if (y.1 : EReal) < x.1 ∨ ((x.1 : EReal) = y.1 ∧ x.2.slt y.2 = true) then x else y := by
  obtain ⟨x1, x2⟩ := x
  obtain ⟨y1, y2⟩ := y
  have e : reducer_argmax_f32_i32 (x1, x2) (y1, y2)
      = (Scalar.select (IntOp.ori (BitVec.ofBool (decide ((y1 : EReal) < x1))) (BitVec.ofBool (decide ((x1 : EReal) ≠ x1)))) x1 y1,
         Scalar.select (IntOp.ori (IntOp.ori (BitVec.ofBool (decide ((y1 : EReal) < x1))) (BitVec.ofBool (decide ((x1 : EReal) ≠ x1))))
           (IntOp.andi (BitVec.ofBool (decide ((x1 : EReal) = y1))) (BitVec.ofBool (x2.slt y2)))) x2 y2) := rfl
  rw [e]
  have e0 : decide ((x1 : EReal) ≠ x1) = false := by simp
  rw [e0]
  by_cases h1 : (y1 : EReal) < x1
  · have hd : decide ((y1 : EReal) < x1) = true := by simpa using h1
    rw [hd, if_pos (Or.inl h1)]
    generalize decide ((x1 : EReal) = y1) = p
    generalize x2.slt y2 = q
    cases p <;> cases q <;> rfl
  · have hd : decide ((y1 : EReal) < x1) = false := by simpa using h1
    rw [hd]
    by_cases h2 : (x1 : EReal) = y1
    · have hd2 : decide ((x1 : EReal) = y1) = true := by simpa using h2
      rw [hd2]
      by_cases h3 : x2.slt y2 = true
      · rw [if_pos (Or.inr ⟨h2, h3⟩), h3]
        exact Prod.ext h2.symm rfl
      · rw [if_neg (by rintro (h | h); exacts [h1 h, h3 h.2]), eq_false_of_ne_true h3]
        rfl
    · have hd2 : decide ((x1 : EReal) = y1) = false := by simpa using h2
      rw [hd2, if_neg (by rintro (h | h); exacts [h1 h, h2 h.1])]
      cases x2.slt y2 <;> rfl

/-- A pair no better than `p`. -/
def Worse (p q : Ideal .f32 × BitVec 32) : Prop :=
  q = p ∨ (q.1 : EReal) < p.1 ∨ ((q.1 : EReal) = p.1 ∧ p.2.slt q.2 = true)

theorem slt_irrefl (a : BitVec 32) : ¬ a.slt a = true := by simp [BitVec.slt]

theorem slt_asymm {a c : BitVec 32} (h : a.slt c = true) : ¬ c.slt a = true := by
  simp only [BitVec.slt, decide_eq_true_eq] at h ⊢
  omega

theorem reducer_left {p q : Ideal .f32 × BitVec 32} (h : Worse p q) : reducer_argmax_f32_i32 p q = p := by
  rw [reducer_eq]
  rcases h with rfl | h | ⟨h, h'⟩
  · exact ite_self _
  · exact if_pos (Or.inl h)
  · exact if_pos (Or.inr ⟨h.symm, h'⟩)

theorem reducer_right {p q : Ideal .f32 × BitVec 32} (h : Worse p q) : reducer_argmax_f32_i32 q p = p := by
  rw [reducer_eq]
  rcases h with rfl | h | ⟨h, h'⟩
  · exact ite_self _
  · exact if_neg (by rintro (g | g); exacts [lt_asymm h g, h.ne g.1])
  · exact if_neg (by rintro (g | g); exacts [g.ne' h, slt_asymm h' g.2])

theorem reducer_mem (x y : Ideal .f32 × BitVec 32) : reducer_argmax_f32_i32 x y = x ∨ reducer_argmax_f32_i32 x y = y := by
  rw [reducer_eq]
  split_ifs
  · exact Or.inl rfl
  · exact Or.inr rfl

/-- The search from a worse pair over a list holding `p` and nothing better ends at `p`. -/
theorem search_eq (p : Ideal .f32 × BitVec 32) : ∀ (l : List (Ideal .f32 × BitVec 32)) (a : Ideal .f32 × BitVec 32),
    (∀ q ∈ l, Worse p q) → Worse p a → (p ∈ l ∨ a = p) → l.foldl reducer_argmax_f32_i32 a = p := by
  intro l
  induction l with
  | nil => intro a _ _ h; exact h.elim (fun h => absurd h (List.not_mem_nil)) id
  | cons x l ih =>
    intro a hl ha h
    have hx := hl x (List.mem_cons_self)
    refine ih _ (fun q hq => hl q (List.mem_cons_of_mem _ hq)) ?_ ?_
    · rcases reducer_mem a x with e | e <;> rw [e] <;> assumption
    · rcases h with h | rfl
      · rcases List.mem_cons.mp h with rfl | h
        · exact Or.inr (reducer_right ha)
        · exact Or.inl h
      · exact Or.inr (reducer_left hx)

theorem drop_eq_iff (i : S8x8192.Idx) : reducesTo_S8x8192_S8_d1.drop i = ValueIdx.ix1 b ↔ (i 0).val = b.val := by
  have e : (reducesTo_S8x8192_S8_d1.drop i 0).val = (i 0).val :=
    Shape.ReducesTo.drop_apply_val_of_eq reducesTo_S8x8192_S8_d1 i 0 0
  constructor
  · intro h
    rw [← e, h]
  · intro h
    funext a
    match a with
    | ⟨0, _⟩ => exact Fin.ext (e.trans h)

/-- The position found is the first greatest one. -/
theorem best_at {w : ℕ → ℝ} (hw : ∀ n : Fin 8192, (v (ValueIdx.ix2 b n) : EReal) = ((w n.val : ℝ) : EReal)) (hk : FirstMax w 8192 k) :
    best v (ValueIdx.ix1 b) = BitVec.ofNat 32 k := by
  have hkl := hk.lt
  have key : Host.reduce2 reducer_argmax_f32_i32 v (iotaInDim S8x8192 32 1) (constant S_ .f32 0xFF800000#32) (constantI S_ 32 0#32)
      reducesTo_S8x8192_S8_d1 h_S_ (ValueIdx.ix1 b) = (((w k : ℝ) : EReal), BitVec.ofNat 32 k) := by
    rw [Host.reduce2_eq_foldl_fiber]
    refine search_eq _ _ _ ?_ ?_ (Or.inl ?_)
    · intro q hq
      unfold Host.argReduceFiber at hq
      obtain ⟨n, hn, rfl⟩ := List.mem_map.mp hq
      have hd := (drop_eq_iff _).mp (of_decide_eq_true (List.mem_filter.mp hn).2)
      generalize S8x8192.rowMajor.symm n = i at hd
      have hi : i = ValueIdx.ix2 b (⟨(i 1).val, (i 1).isLt⟩ : Fin 8192) := by
        funext a
        match a with
        | ⟨0, _⟩ => exact Fin.ext hd
        | ⟨1, _⟩ => rfl
      have hx : (v i : EReal) = ((w (i 1).val : ℝ) : EReal) := (congrArg v hi).trans (hw ⟨(i 1).val, (i 1).isLt⟩)
      have hy : iotaInDim S8x8192 32 1 i = BitVec.ofNat 32 (i 1).val := rfl
      have hlt : (i 1).val < 8192 := (i 1).isLt
      show Worse _ (v i, iotaInDim S8x8192 32 1 i)
      rw [hy]
      unfold Worse
      rcases lt_or_eq_of_le (hk.le _ hlt) with h | h
      · exact Or.inr (Or.inl (by show (v i : EReal) < _; rw [hx]; exact EReal.coe_lt_coe_iff.mpr h))
      · rcases lt_or_eq_of_le (hk.first _ hlt h) with h' | h'
        · refine Or.inr (Or.inr ⟨by show (v i : EReal) = _; rw [hx, h], ?_⟩)
          show (BitVec.ofNat 32 k).slt (BitVec.ofNat 32 (i 1).val) = true
          simp only [BitVec.slt, decide_eq_true_eq]
          rw [toInt_ofNat (by omega), toInt_ofNat (by omega)]
          omega
        · refine Or.inl (Prod.ext ?_ ?_)
          · show (v i : EReal) = _
            rw [hx, h]
          · show BitVec.ofNat 32 (i 1).val = BitVec.ofNat 32 k
            rw [h']
    · refine Or.inr (Or.inl ?_)
      show Ideal.ofBits .f32 0xFF800000#32 < ((w k : ℝ) : EReal)
      rw [ofBits_bot]
      exact EReal.bot_lt_coe _
    · unfold Host.argReduceFiber
      refine List.mem_map.mpr ⟨S8x8192.rowMajor (ValueIdx.ix2 b (⟨k, hkl⟩ : Fin 8192)), List.mem_filter.mpr ⟨List.mem_finRange _, ?_⟩, ?_⟩
      · refine decide_eq_true ((drop_eq_iff _).mpr ?_)
        rw [Equiv.symm_apply_apply]
      · rw [Equiv.symm_apply_apply]
        exact Prod.ext (hw ⟨k, hkl⟩) rfl
  unfold best
  dsimp only
  rw [Ideal.argReduce_eq_reduce2, key]

/-- The gather along the second axis, one position per row, read at a row: the operand's row at that position, read
    signed and clamped. -/
theorem gather_at (x : FVec Ideal S8x8192 .f32) (idx : IVec S8x1x1 32) (b : Fin 8) :
    Host.gather gather_S8x8192_S8x1x1_S8x1_n_1_0_0_1_2_11 x idx (ValueIdx.ix2 b (0 : Fin 1))
      = x (ValueIdx.ix2 b (⟨min (idx (ValueIdx.ix3 b (0 : Fin 1) (0 : Fin 1))).toInt.toNat 8191, by omega⟩ : Fin 8192)) := by
  let d := gather_S8x8192_S8x1x1_S8x1_n_1_0_0_1_2_11
  let y : S8x1.Idx := ValueIdx.ix2 b (0 : Fin 1)
  unfold Host.gather
  congr 1
  funext a
  refine Fin.ext ?_
  show d.start y idx a + d.batchCoord y a + d.offCoord y a = _
  match a with
  | ⟨0, _⟩ =>
    show d.start y idx (0 : Fin 2) + d.batchCoord y (0 : Fin 2) + d.offCoord y (0 : Fin 2) = _
    rw [GatherDims.start_batching d _ _ _ (List.mem_singleton.mpr rfl),
      GatherDims.offCoord_eq_zero d _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show d.start y idx (1 : Fin 2) + d.batchCoord y (1 : Fin 2) + d.offCoord y (1 : Fin 2) = _
    rw [GatherDims.batchCoord_eq_zero d _ _ (fun h => by simp [d, gather_S8x8192_S8x1x1_S8x1_n_1_0_0_1_2_11] at h),
      GatherDims.offCoord_eq_zero d _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx y ⟨List.idxOf (1 : Fin 2) d.startIndexMap, List.idxOf_lt_length_iff.2 (List.mem_singleton.mpr rfl)⟩
        = ValueIdx.ix3 b (0 : Fin 1) (0 : Fin 1) := by
      funext c; refine Fin.ext ?_
      match c with
      | ⟨0, _⟩ => rfl
      | ⟨1, _⟩ => rfl
      | ⟨2, _⟩ => rfl
    rw [hsi]
    rfl

/-- A position in range is not moved by the wrap of negative positions. -/
theorem wrap_eq {k : ℕ} (hk : k < 8192) :
    Scalar.select (IntOp.cmpi .slt (BitVec.ofNat 32 k) 0#32) (IntOp.addi (BitVec.ofNat 32 k) 8192#32) (BitVec.ofNat 32 k) = BitVec.ofNat 32 k := by
  have e : IntOp.cmpi .slt (BitVec.ofNat 32 k) 0#32 = 0#1 := by
    show BitVec.ofBool ((BitVec.ofNat 32 k).slt 0#32) = 0#1
    have h : (BitVec.ofNat 32 k).slt 0#32 = false := by
      simp only [BitVec.slt, decide_eq_false_iff_not]
      rw [toInt_ofNat (by omega)]
      simp
    rw [h]
    rfl
  rw [e]
  rfl

theorem inRange {k : ℕ} (hk : k < 8192) :
    IntOp.andi (IntOp.cmpi .sge (BitVec.ofNat 32 k) 0#32) (IntOp.cmpi .sle (BitVec.ofNat 32 k) 8191#32) = 1#1 := by
  have e1 : (0#32).sle (BitVec.ofNat 32 k) = true := by
    simp only [BitVec.sle, decide_eq_true_eq]
    rw [toInt_ofNat (n := k) (by omega)]
    simp
  have e2 : (BitVec.ofNat 32 k).sle 8191#32 = true := by
    simp only [BitVec.sle, decide_eq_true_eq]
    rw [toInt_ofNat (n := k) (by omega)]
    have : (8191#32).toInt = 8191 := by decide
    omega
  show IntOp.andi (BitVec.ofBool ((0#32).sle (BitVec.ofNat 32 k))) (BitVec.ofBool ((BitVec.ofNat 32 k).sle 8191#32)) = 1#1
  rw [e1, e2]
  rfl

theorem bestWeight_open (v : FVec Ideal S8x8192 .f32) (p : IVec S8 32) (b : Fin 8) {i : BitVec 32}
    (hi : Scalar.select (IntOp.cmpi .slt (p (ValueIdx.ix1 b)) 0#32) (IntOp.addi (p (ValueIdx.ix1 b)) 8192#32) (p (ValueIdx.ix1 b)) = i) :
    bestWeight v p (ValueIdx.ix2 b (0 : Fin 1))
      = Scalar.select ((Finset.univ : Finset (Fin 1)).fold IntOp.andi 1#1 fun _ => IntOp.andi (IntOp.cmpi .sge i 0#32) (IntOp.cmpi .sle i 8191#32))
          (v (ValueIdx.ix2 b (⟨min i.toInt.toNat 8191, by omega⟩ : Fin 8192))) (Ideal.ofBits .f32 0x7FC00000#32) := by
  subst hi
  unfold bestWeight
  dsimp only
  simp only [pointwise, gather_at]
  rfl

/-- The weight taken at the first greatest position is the one there. -/
theorem bestWeight_at (v : FVec Ideal S8x8192 .f32) (p : IVec S8 32) (b : Fin 8) {k : ℕ} (hk : k < 8192)
    (hp : p (ValueIdx.ix1 b) = BitVec.ofNat 32 k) :
    bestWeight v p (ValueIdx.ix2 b (0 : Fin 1)) = v (ValueIdx.ix2 b (⟨k, hk⟩ : Fin 8192)) := by
  rw [bestWeight_open v p b (i := BitVec.ofNat 32 k) (by rw [hp]; exact wrap_eq hk)]
  simp only [inRange hk]
  have e : ((Finset.univ : Finset (Fin 1)).fold IntOp.andi 1#1 fun _ => (1#1 : BitVec 1)) = 1#1 := by decide
  rw [e]
  refine congrArg v (congrArg (ValueIdx.ix2 b) (Fin.ext ?_))
  show min (BitVec.ofNat 32 k).toInt.toNat 8191 = k
  rw [toInt_ofNat (by omega)]
  omega

theorem joined_lo (p : IVec S8 32) (w : FVec Ideal S8x1 .f32) (t : FVec Ideal S_ .f32) (b : Fin 8) :
    joined p w t (ValueIdx.ix2 (0 : Fin 1) (⟨b.val, by omega⟩ : Fin 16)) = p (ValueIdx.ix1 b) := by
  unfold joined
  dsimp only
  simp only [pointwise]
  exact (dif_pos b.isLt).trans rfl

theorem joined_hi (p : IVec S8 32) (w : FVec Ideal S8x1 .f32) (t : FVec Ideal S_ .f32) (b : Fin 8) :
    joined p w t (ValueIdx.ix2 (0 : Fin 1) (⟨8 + b.val, by omega⟩ : Fin 16))
      = BitVec.setWidth 32 (BitVec.ofBool (decide ((t ValueIdx.ix0 : EReal) < w (ValueIdx.ix2 b (0 : Fin 1))))) := by
  unfold joined
  dsimp only
  simp only [pointwise]
  refine (dif_neg (show ¬ (8 + b.val < 8) by omega)).trans ?_
  have e : ∀ h, (⟨8 + b.val - 8, h⟩ : Fin 8) = b := fun h => Fin.ext (Nat.add_sub_cancel_left 8 b.val)
  refine congrArg (fun z => BitVec.setWidth 32 (BitVec.ofBool (decide ((t ValueIdx.ix0 : EReal) < w (ValueIdx.ix2 z (0 : Fin 1)))))) ?_
  exact e (by omega)

/-- The reference's joined result at real scores: the first greatest position of each row, then whether the inverse of
    the row's total exceeds the threshold. -/
theorem tail_at (hs : ∀ n : Fin 8192, (v (ValueIdx.ix2 b n) : EReal) = ((s n.val : ℝ) : EReal)) (hk : FirstMax s 8192 k) (t : FVec Ideal S_ .f32) :
    tail (weights v) t (ValueIdx.ix2 (0 : Fin 1) (⟨b.val, by omega⟩ : Fin 16)) = BitVec.ofNat 32 k
    ∧ tail (weights v) t (ValueIdx.ix2 (0 : Fin 1) (⟨8 + b.val, by omega⟩ : Fin 16))
      = BitVec.setWidth 32 (BitVec.ofBool (decide ((t ValueIdx.ix0 : EReal) < ((1 / total s k : ℝ) : EReal)))) := by
  have hb : best (weights v) (ValueIdx.ix1 b) = BitVec.ofNat 32 k :=
    best_at (w := fun n => Real.exp (s n - s k) / total s k) (fun n => weights_at hs hk n) (firstMax_weights hk)
  refine ⟨(joined_lo _ _ t b).trans hb, (joined_hi _ _ t b).trans ?_⟩
  rw [bestWeight_at _ _ b hk.lt hb, weights_at hs hk ⟨k, hk.lt⟩]
  show BitVec.setWidth 32 (BitVec.ofBool (decide (_ < ((Real.exp (s k - s k) / total s k : ℝ) : EReal)))) = _
  rw [sub_self, Real.exp_zero]

end Cert.ReferenceIdeal.Ref
-- ==== Proof.Equal.lean ====
/-
  The score kernel's second result is the reference's, from arguments whose second layer is real: both name the first
  greatest position of the same scores, the reference's all moved by the offset, and both compare the inverse of the
  same total with the threshold.
-/
module

public import proofs.«01_k».proof.Proof.Output
public import proofs.«01_k».proof.Proof.RefValue

@[expose] public section

noncomputable section

namespace Cert.Equal

open Idealize.ShloMosaic Idealize.ShloMosaic.TcCoe Cert.Online Cert.Score
open Cert.KernelIdeal.Step (aMem aW1 aX aW2 aThr srow RealW meta_at)

/-- Adding one number to every score moves no maximum. -/
theorem firstMax_add {s : ℕ → ℝ} {n k : ℕ} (h : FirstMax s n k) (d : ℝ) : FirstMax (fun j => s j + d) n k :=
  ⟨h.lt, fun j hj => add_le_add_left (h.le j hj) d, fun j hj e => h.first j hj (add_right_cancel e)⟩

theorem total_add (s : ℕ → ℝ) (k : ℕ) (d : ℝ) :
    Cert.ReferenceIdeal.Ref.total (fun j => s j + d) k = ∑ j ∈ Finset.range 8192, Real.exp (s j - s k) := by
  unfold Cert.ReferenceIdeal.Ref.total
  exact Finset.sum_congr rfl fun j _ => congrArg Real.exp (by ring)

variable (m : (ℓ : Loc Cert.KernelIdeal.nD Cert.KernelIdeal.τ Cert.KernelIdeal.sig) → Buf (Elt Ideal) ℓ) (c : Dev Cert.KernelIdeal.nD)

theorem meta_eq (hw : RealW m c) (a4 : FVec Ideal Cert.ReferenceIdeal.S1 .f32)
    (h4 : (a4 (ValueIdx.ix1 (0 : Fin 1)) : EReal) ≠ ⊤ ∧ (a4 (ValueIdx.ix1 (0 : Fin 1)) : EReal) ≠ ⊥) :
    Cert.KernelIdeal.Value.G6 m c = Cert.ReferenceIdeal.Ref.tail (Cert.ReferenceIdeal.Ref.weights
      (Cert.ReferenceIdeal.Ref.scores (aMem m c) (aW1 m c) (aX m c) (aW2 m c) a4)) (aThr m c) := by
  funext i
  have hs : ∀ (b : Fin 8) (n : Fin 8192), (Cert.ReferenceIdeal.Ref.scores (aMem m c) (aW1 m c) (aX m c) (aW2 m c) a4 (ValueIdx.ix2 b n) : EReal)
      = ((srow m c b n.val + (a4 (ValueIdx.ix1 (0 : Fin 1)) : EReal).toReal : ℝ) : EReal) := fun b n => by
    rw [Cert.ReferenceIdeal.Ref.scores_at _ _ _ _ _ hw b n, EReal.coe_add, EReal.coe_toReal h4.1 h4.2]
    rfl
  have key : ∀ b : Fin 8,
      (Cert.KernelIdeal.Value.G6 m c (ValueIdx.ix2 (0 : Fin 1) (⟨b.val, by omega⟩ : Fin 16)) = Cert.ReferenceIdeal.Ref.tail (Cert.ReferenceIdeal.Ref.weights
        (Cert.ReferenceIdeal.Ref.scores (aMem m c) (aW1 m c) (aX m c) (aW2 m c) a4)) (aThr m c) (ValueIdx.ix2 (0 : Fin 1) (⟨b.val, by omega⟩ : Fin 16)))
      ∧ Cert.KernelIdeal.Value.G6 m c (ValueIdx.ix2 (0 : Fin 1) (⟨8 + b.val, by omega⟩ : Fin 16)) = Cert.ReferenceIdeal.Ref.tail (Cert.ReferenceIdeal.Ref.weights
        (Cert.ReferenceIdeal.Ref.scores (aMem m c) (aW1 m c) (aX m c) (aW2 m c) a4)) (aThr m c) (ValueIdx.ix2 (0 : Fin 1) (⟨8 + b.val, by omega⟩ : Fin 16)) := by
    intro b
    obtain ⟨k, hk, hlo, hhi⟩ := meta_at m c hw b
    have R := Cert.ReferenceIdeal.Ref.tail_at (s := fun n => srow m c b n + (a4 (ValueIdx.ix1 (0 : Fin 1)) : EReal).toReal) (hs b)
      (firstMax_add hk _) (aThr m c)
    rw [total_add] at R
    exact ⟨hlo.trans R.1.symm, hhi.trans R.2.symm⟩
  have hi0 : (i 0).val < 1 := (i 0).isLt
  have hi1 : (i 1).val < 16 := (i 1).isLt
  by_cases h : (i 1).val < 8
  · have e : i = ValueIdx.ix2 (0 : Fin 1) (⟨(i 1).val, hi1⟩ : Fin 16) := by
      funext a
      match a with
      | ⟨0, _⟩ => exact Fin.ext (by show (i 0).val = 0; omega)
      | ⟨1, _⟩ => rfl
    rw [e]
    exact (key ⟨(i 1).val, h⟩).1
  · have e : i = ValueIdx.ix2 (0 : Fin 1) (⟨8 + ((i 1).val - 8), by omega⟩ : Fin 16) := by
      funext a
      match a with
      | ⟨0, _⟩ => exact Fin.ext (by show (i 0).val = 0; omega)
      | ⟨1, _⟩ => exact Fin.ext (by show (i 1).val = 8 + ((i 1).val - 8); omega)
    rw [e]
    exact (key ⟨(i 1).val - 8, by omega⟩).2

end Cert.Equal
-- ==== Proof.Finite.lean ====
/-
  What the precondition says of the second layer's weights and offset at the ideal values: they are real numbers.
-/
module

public import proofs.«01_k».proof.Proof.Gen.Pre_finite
public import Idealize.ShloMosaic.Lib.ReduceAll
public import Idealize.ShloMosaic.Lib.ValueIdxCore
public import Idealize.ShloMosaic.PureOps.Ideal.Laws

@[expose] public section

noncomputable section

namespace Cert.Pre_finite

open Cert.Pre_finite Idealize.ShloMosaic

theorem ofBits_top : Ideal.ofBits .f32 0x7F800000#32 = (⊤ : EReal) := by
  simp [Ideal.ofBits, Ideal.ieee]

/-- A value below the infinity in absolute value is a real number. -/
theorem real_of_lt {x : EReal} (h : Ideal.cmp .olt (max x (-x)) (Ideal.ofBits .f32 0x7F800000#32) = 1#1) : x ≠ ⊤ ∧ x ≠ ⊥ := by
  rw [ofBits_top] at h
  unfold Ideal.cmp at h
  refine ⟨?_, ?_⟩
  · rintro rfl
    simp at h
  · rintro rfl
    simp at h

instance : Subsingleton S_.Idx := ⟨fun a b => funext fun i => i.elim0⟩

theorem andi_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

theorem reals (a0 : FVec Ideal S8192x1153 .f32) (a1 : FVec Ideal S1153x2306 .f32) (a2 : FVec Ideal S1153x8 .f32)
    (a3 : FVec Ideal S1x1153 .f32) (a4 : FVec Ideal S1 .f32) (a5 : FVec Ideal S_ .f32)
    (h : fn (F := Ideal) a0 a1 a2 a3 a4 a5 = fun _ => 1#1) :
    (∀ i, (a3 i : EReal) ≠ ⊤ ∧ (a3 i : EReal) ≠ ⊥) ∧ ∀ i, (a4 i : EReal) ≠ ⊤ ∧ (a4 i : EReal) ≠ ⊥ := by
  have h0 := congrFun h ValueIdx.ix0
  unfold fn at h0
  dsimp only at h0
  obtain ⟨h3, h4⟩ := andi_one h0
  exact ⟨fun i => real_of_lt (Host.reduce_andi_all _ _ _ _ _ h3 i), fun i => real_of_lt (Host.reduce_andi_all _ _ _ _ _ h4 i)⟩

end Cert.Pre_finite
-- ==== Proof.Prelude.lean ====
/-
  The first call: its two results are the candidate rows and the hidden layer's input part, each transposed, as the
  reference computes them.
-/
module

public import proofs.«01_k».proof.Proof.Gen.PrologueIdeal.Value
public import proofs.«01_k».proof.Proof.Gen.PrologueRefIdeal.Run
public import Idealize.ShloMosaic.Lib.Pointwise
public import Idealize.ShloMosaic.Lib.ValueLayoutCasts
public import Idealize.ShloMosaic.Lib.Claim

@[expose] public section

noncomputable section

namespace Cert.PrologueIdeal.Call

open Cert.PrologueIdeal Cert.PrologueIdeal.Gen Cert.PrologueIdeal.Value Idealize.ShloMosaic Idealize.ShloMosaic.TcCoe Idealize.SL.Sem

section

variable {F : FTy → Type} [FloatOps F]
variable (m : (ℓ : Loc nD τ sig) → Buf (Elt F) ℓ) (c : Dev nD)

/-- The features, the actions, the results, the embedding, the first layer's weights and bias. -/
abbrev aFeat : FVec F S8x1024 .f32 := m ((c : Thread nD τ).loc main_arg0)
abbrev aAct : FVec F S8x4672 .f32 := m ((c : Thread nD τ).loc main_arg1)
abbrev aRes : FVec F S8 .f32 := m ((c : Thread nD τ).loc main_arg2)
abbrev aEmb : FVec F S4672x128 .f32 := m ((c : Thread nD τ).loc main_arg3)
abbrev aW1 : FVec F S1153x2306 .f32 := m ((c : Thread nD τ).loc main_arg4)
abbrev aB1 : FVec F S1153 .f32 := m ((c : Thread nD τ).loc main_arg5)

theorem V_v0 : V m c main_v0 = broadcastInDim S8x1 ![0] bcast_S8_S8x1_0 (aRes m c) := by
  entry_read
  rfl

theorem V_v1 : V m c main_v1 = broadcastInDim S1x1153 ![1] bcast_S1153_S1x1153_1 (aB1 m c) := by
  entry_read
  rfl

/-- Every window's block index is zero. -/
theorem idx_zero : ∀ (t : Fin cfg0.N),
    (∀ a : Fin 2, win0_0.index t a = 0) ∧ (∀ a : Fin 2, win0_1.index t a = 0) ∧ (∀ a : Fin 2, win0_2.index t a = 0)
    ∧ (∀ a : Fin 2, win0_3.index t a = 0) ∧ (∀ a : Fin 2, win0_4.index t a = 0) ∧ (∀ a : Fin 2, win0_5.index t a = 0)
    ∧ (∀ a : Fin 2, win0_6.index t a = 0) ∧ (∀ a : Fin 2, win0_7.index t a = 0) :=
  (by decide +kernel : ∀ t : Fin grid0.N, _)

/-- The block at index zero is the whole array, coordinate by coordinate. -/
theorem at_zero {i k n : ℕ} (h : i = 0) : i * n + 1 * k = k := by rw [h]; omega

theorem blk0 (t : Fin cfg0.N) : (iblk m c 0 t : Vec F S8x1024 .f32) = aFeat m c := by
  funext j
  unfold iblk
  rw [View.read_apply]
  show V m c main_arg0 _ = _
  rw [V_main_arg0]
  exact congrArg (aFeat m c) (funext fun a => Fin.ext (at_zero ((idx_zero t).1 a)))

theorem blk1 (t : Fin cfg0.N) : (iblk m c 1 t : Vec F S8x4672 .f32) = aAct m c := by
  funext j
  unfold iblk
  rw [View.read_apply]
  show V m c main_arg1 _ = _
  rw [V_main_arg1]
  exact congrArg (aAct m c) (funext fun a => Fin.ext (at_zero ((idx_zero t).2.1 a)))

theorem blk2 (t : Fin cfg0.N) : (iblk m c 2 t : Vec F S8x1 .f32) = broadcastInDim S8x1 ![0] bcast_S8_S8x1_0 (aRes m c) := by
  funext j
  unfold iblk
  rw [View.read_apply]
  show V m c main_v0 _ = _
  rw [V_v0]
  refine congrArg (broadcastInDim S8x1 ![0] bcast_S8_S8x1_0 (aRes m c)) (?_ : _ = j)
  exact funext fun a => Fin.ext (at_zero ((idx_zero t).2.2.1 a))

theorem blk3 (t : Fin cfg0.N) : (iblk m c 3 t : Vec F S4672x128 .f32) = aEmb m c := by
  funext j
  unfold iblk
  rw [View.read_apply]
  show V m c main_arg3 _ = _
  rw [V_main_arg3]
  exact congrArg (aEmb m c) (funext fun a => Fin.ext (at_zero ((idx_zero t).2.2.2.1 a)))

theorem blk4 (t : Fin cfg0.N) : (iblk m c 4 t : Vec F S1153x2306 .f32) = aW1 m c := by
  funext j
  unfold iblk
  rw [View.read_apply]
  show V m c main_arg4 _ = _
  rw [V_main_arg4]
  exact congrArg (aW1 m c) (funext fun a => Fin.ext (at_zero ((idx_zero t).2.2.2.2.1 a)))

theorem blk5 (t : Fin cfg0.N) : (iblk m c 5 t : Vec F S1x1153 .f32) = broadcastInDim S1x1153 ![1] bcast_S1153_S1x1153_1 (aB1 m c) := by
  funext j
  unfold iblk
  rw [View.read_apply]
  show V m c main_v1 _ = _
  rw [V_v1]
  refine congrArg (broadcastInDim S1x1153 ![1] bcast_S1153_S1x1153_1 (aB1 m c)) (?_ : _ = j)
  exact funext fun a => Fin.ext (at_zero ((idx_zero t).2.2.2.2.2.1 a))

theorem off_zero : (![0, 0] : Fin 2 → ℕ) = fun _ => 0 := by
  funext a
  fin_cases a <;> rfl

/-- The one grid point. -/
theorem zero_lt : 0 < cfg0.N := by decide

/-- The first result: the candidate rows, transposed. -/
theorem cand_eq : (dats m 0 c).arrAt 6 cfg0.N
    = k0_pay2 (aAct m c) (aEmb m c) (aFeat m c) (broadcastInDim S8x1 ![0] bcast_S8_S8x1_0 (aRes m c)) := by
  have h := blocks6 m c ⟨0, zero_lt⟩ (by decide)
  rw [flushed6, blk0, blk1, blk2, blk3, blk4, blk5] at h
  unfold out0_6 at h
  rw [View.ld_unit_zero off_zero, View.ld_unit_zero off_zero, View.ld_unit_zero off_zero, View.ld_unit_zero off_zero,
    View.canon_unit_zero off_zero] at h
  funext i
  have hi := congrFun h i
  rw [View.read_apply] at hi
  refine Eq.trans (congrArg ((dats m 0 c).arrAt 6 cfg0.N) (?_ : i = _)) (hi.trans rfl)
  exact (funext fun a => Fin.ext (at_zero ((idx_zero ⟨0, zero_lt⟩).2.2.2.2.2.2.1 a))).symm

/-- The second result: the input part, transposed. -/
theorem part_eq : (dats m 0 c).arrAt 7 cfg0.N
    = k0_pay3 (aAct m c) (aEmb m c) (aFeat m c) (broadcastInDim S8x1 ![0] bcast_S8_S8x1_0 (aRes m c))
      (View.ld (aW1 m c) r0_5) (broadcastInDim S1x1153 ![1] bcast_S1153_S1x1153_1 (aB1 m c)) := by
  have h := blocks7 m c ⟨0, zero_lt⟩ (by decide)
  rw [flushed7, blk0, blk1, blk2, blk3, blk4, blk5] at h
  unfold out0_7 at h
  rw [View.ld_unit_zero off_zero, View.ld_unit_zero off_zero, View.ld_unit_zero off_zero, View.ld_unit_zero off_zero,
    View.ld_unit_zero off_zero, View.canon_unit_zero off_zero] at h
  funext i
  have hi := congrFun h i
  rw [View.read_apply] at hi
  refine Eq.trans (congrArg ((dats m 0 c).arrAt 7 cfg0.N) (?_ : i = _)) (hi.trans rfl)
  exact (funext fun a => Fin.ext (at_zero ((idx_zero ⟨0, zero_lt⟩).2.2.2.2.2.2.2 a))).symm

end

/-! ## The same values as the reference's -/

/-- The reference's candidate rows. -/
def rows {F : FTy → Type} [FloatOps F] (a0 : FVec F S8x1024 .f32) (a1 : FVec F S8x4672 .f32) (a2 : FVec F S8 .f32) (a3 : FVec F S4672x128 .f32) :
    FVec F S8x1153 .f32 :=
  concatenate S8x1153 1 [⟨S8x1024, a0⟩,
    ⟨S8x128, Host.dotGeneral Cert.PrologueRefIdeal.dot_S8x4672_S4672x128_S8x128_1_0_0_1_n_n none a1 a3⟩,
    ⟨S8x1, broadcastInDim S8x1 ![0] bcast_S8_S8x1_0 a2⟩] concatenates_S8x1024_S8x128_S8x1_S8x1153_d1

variable (a0 : FVec Ideal S8x1024 .f32) (a1 : FVec Ideal S8x4672 .f32) (a2 : FVec Ideal S8 .f32) (a3 : FVec Ideal S4672x128 .f32)
    (a4 : FVec Ideal S1153x2306 .f32) (a5 : FVec Ideal S1153 .f32)

/-- The product of the actions with the embedding is the host's. -/
theorem emb_eq : matmul dot_S8x4672_S4672x128_S8x128_1_0_0_1_n_n none a1 a3 (constant S8x128 .f32 0x00000000#32)
    = Host.dotGeneral (F := Ideal) Cert.PrologueRefIdeal.dot_S8x4672_S4672x128_S8x128_1_0_0_1_n_n none a1 a3 := by
  funext i
  have e : i = ValueIdx.ix2 (⟨(i 0).val, (i 0).isLt⟩ : Fin 8) (⟨(i 1).val, (i 1).isLt⟩ : Fin 128) := by
    funext a
    match a with
    | ⟨0, _⟩ => rfl
    | ⟨1, _⟩ => rfl
  rw [e]
  simp only [pointwise, zero_add]

theorem pay1_eq : k0_pay1 a1 a3 a0 (broadcastInDim S8x1 ![0] bcast_S8_S8x1_0 a2) = rows a0 a1 a2 a3 := by
  unfold k0_pay1 rows
  dsimp only
  rw [emb_eq, shapeCast_self]

/-- An entry of the input part: a row of the candidates against a row of the weights' first half, plus the bias. -/
def part (r : Fin 1153) (b : Fin 8) : EReal :=
  (∑ k : Fin 1153, rows a0 a1 a2 a3 (ValueIdx.ix2 b k) * a4 (ValueIdx.ix2 r (⟨k.val, by have := k.isLt; omega⟩ : Fin 2306)))
    + a5 (ValueIdx.ix1 r)

/-- The kernel's second result read at an index. -/
theorem pay3_at (r : Fin 1153) (b : Fin 8) :
    k0_pay3 (F := Ideal) a1 a3 a0 (broadcastInDim S8x1 ![0] bcast_S8_S8x1_0 a2) (View.ld a4 r0_5) (broadcastInDim S1x1153 ![1] bcast_S1153_S1x1153_1 a5)
      (ValueIdx.ix2 r b) = part a0 a1 a2 a3 a4 a5 r b := by
  unfold k0_pay3
  dsimp only
  rw [pay1_eq]
  simp only [pointwise, zero_add]
  unfold part
  refine congrArg₂ (fun x y : EReal => x + y) (Finset.sum_congr rfl fun k _ => congrArg₂ (fun x y : EReal => x * y)
    (congrArg (rows a0 a1 a2 a3) (ix2_eq_valueIdx _ _)) (congrArg a4 ?_)) (congrArg a5 (ix1_eq_valueIdx _))
  funext a
  apply Fin.ext
  match a with
  | ⟨0, _⟩ => show 0 + 1 * r.val = r.val; omega
  | ⟨1, _⟩ => show 0 + 1 * k.val = k.val; omega

/-- The reference's second result. -/
def refPart : FVec Ideal S1153x8 .f32 :=
  transpose S1153x8 [1, 0] (addf (Host.dotGeneral (F := Ideal) Cert.PrologueRefIdeal.dot_S8x1153_S1153x1153_S8x1153_1_0_0_1_n_n none (rows a0 a1 a2 a3)
      (transpose Cert.PrologueRefIdeal.S1153x1153 [1, 0] (extractStridedSlice Cert.PrologueRefIdeal.S1153x1153 ![0, 0] a4
        Cert.PrologueRefIdeal.Gen.slices_S1153x2306_S1153x1153_0_0) Cert.PrologueRefIdeal.Gen.transposes_S1153x1153_S1153x1153_1_0))
    (broadcastInDim S8x1153 ![0, 1] Cert.PrologueRefIdeal.Gen.bcast_S1x1153_S8x1153_0_1 (broadcastInDim S1x1153 ![1] bcast_S1153_S1x1153_1 a5)))
    Cert.PrologueRefIdeal.Gen.transposes_S8x1153_S1153x8_1_0

theorem refPart_at (r : Fin 1153) (b : Fin 8) : refPart a0 a1 a2 a3 a4 a5 (ValueIdx.ix2 r b) = part a0 a1 a2 a3 a4 a5 r b := by
  unfold refPart
  simp only [pointwise, zero_add]
  unfold part
  refine congrArg₂ (fun x y : EReal => x + y) (Finset.sum_congr rfl fun k _ => congrArg₂ (fun x y : EReal => x * y)
    (congrArg (rows a0 a1 a2 a3) (ix2_eq_valueIdx _ _)) (congrArg a4 ?_)) (congrArg a5 (ix1_eq_valueIdx _))
  funext a
  apply Fin.ext
  match a with
  | ⟨0, _⟩ => first | rfl | (show 0 + r.val = r.val; omega) | (show 0 + 1 * r.val = r.val; omega)
  | ⟨1, _⟩ => first | rfl | (show 0 + k.val = k.val; omega) | (show 0 + 1 * k.val = k.val; omega)

/-- The two second results are one array. -/
theorem parts_eq : k0_pay3 a1 a3 a0 (broadcastInDim S8x1 ![0] bcast_S8_S8x1_0 a2) (View.ld a4 r0_5)
    (broadcastInDim S1x1153 ![1] bcast_S1153_S1x1153_1 a5) = refPart a0 a1 a2 a3 a4 a5 := by
  funext i
  have e : i = ValueIdx.ix2 (⟨(i 0).val, (i 0).isLt⟩ : Fin 1153) (⟨(i 1).val, (i 1).isLt⟩ : Fin 8) := by
    funext a
    match a with
    | ⟨0, _⟩ => rfl
    | ⟨1, _⟩ => rfl
  rw [e, pay3_at, refPart_at]

/-- The first call's two results are the reference's. -/
theorem equal (m : (ℓ : Loc nD τ sig) → Buf (Elt Ideal) ℓ) (g : Dev nD → PrngReg)
    (m' : (ℓ : Loc Cert.PrologueRefIdeal.nD Cert.PrologueRefIdeal.τ Cert.PrologueRefIdeal.sig) → Buf (Elt Ideal) ℓ)
    (g' : Dev Cert.PrologueRefIdeal.nD → PrngReg)
    (h : ∀ c : Dev nD,
      m' ((c.tc : Thread Cert.PrologueRefIdeal.nD Cert.PrologueRefIdeal.τ).loc Cert.PrologueRefIdeal.main_arg0) = aFeat m c
      ∧ m' ((c.tc : Thread Cert.PrologueRefIdeal.nD Cert.PrologueRefIdeal.τ).loc Cert.PrologueRefIdeal.main_arg1) = aAct m c
      ∧ m' ((c.tc : Thread Cert.PrologueRefIdeal.nD Cert.PrologueRefIdeal.τ).loc Cert.PrologueRefIdeal.main_arg2) = aRes m c
      ∧ m' ((c.tc : Thread Cert.PrologueRefIdeal.nD Cert.PrologueRefIdeal.τ).loc Cert.PrologueRefIdeal.main_arg3) = aEmb m c
      ∧ m' ((c.tc : Thread Cert.PrologueRefIdeal.nD Cert.PrologueRefIdeal.τ).loc Cert.PrologueRefIdeal.main_arg4) = aW1 m c
      ∧ m' ((c.tc : Thread Cert.PrologueRefIdeal.nD Cert.PrologueRefIdeal.τ).loc Cert.PrologueRefIdeal.main_arg5) = aB1 m c) :
    θ_run (Cert.PrologueRefIdeal.defs (F := Ideal)) (onTc (τ := Cert.PrologueRefIdeal.τ) (Cert.PrologueRefIdeal.main (F := Ideal)))
      ⟨m', fun _ => 0, g'⟩ (fun r => ∀ c : Dev Cert.PrologueRefIdeal.nD,
        r.2.mem ((c.tc : Thread Cert.PrologueRefIdeal.nD Cert.PrologueRefIdeal.τ).loc Cert.PrologueRefIdeal.main_v9) = (dats m 0 c).arrAt 6 cfg0.N
        ∧ r.2.mem ((c.tc : Thread Cert.PrologueRefIdeal.nD Cert.PrologueRefIdeal.τ).loc Cert.PrologueRefIdeal.main_v10) = (dats m 0 c).arrAt 7 cfg0.N
        ∧ r.2.mem ((c.tc : Thread Cert.PrologueRefIdeal.nD Cert.PrologueRefIdeal.τ).loc Cert.PrologueRefIdeal.main_arg0) = m' ((c.tc : Thread Cert.PrologueRefIdeal.nD Cert.PrologueRefIdeal.τ).loc Cert.PrologueRefIdeal.main_arg0)
        ∧ r.2.mem ((c.tc : Thread Cert.PrologueRefIdeal.nD Cert.PrologueRefIdeal.τ).loc Cert.PrologueRefIdeal.main_arg1) = m' ((c.tc : Thread Cert.PrologueRefIdeal.nD Cert.PrologueRefIdeal.τ).loc Cert.PrologueRefIdeal.main_arg1)
        ∧ r.2.mem ((c.tc : Thread Cert.PrologueRefIdeal.nD Cert.PrologueRefIdeal.τ).loc Cert.PrologueRefIdeal.main_arg2) = m' ((c.tc : Thread Cert.PrologueRefIdeal.nD Cert.PrologueRefIdeal.τ).loc Cert.PrologueRefIdeal.main_arg2)
        ∧ r.2.mem ((c.tc : Thread Cert.PrologueRefIdeal.nD Cert.PrologueRefIdeal.τ).loc Cert.PrologueRefIdeal.main_arg3) = m' ((c.tc : Thread Cert.PrologueRefIdeal.nD Cert.PrologueRefIdeal.τ).loc Cert.PrologueRefIdeal.main_arg3)
        ∧ r.2.mem ((c.tc : Thread Cert.PrologueRefIdeal.nD Cert.PrologueRefIdeal.τ).loc Cert.PrologueRefIdeal.main_arg4) = m' ((c.tc : Thread Cert.PrologueRefIdeal.nD Cert.PrologueRefIdeal.τ).loc Cert.PrologueRefIdeal.main_arg4)
        ∧ r.2.mem ((c.tc : Thread Cert.PrologueRefIdeal.nD Cert.PrologueRefIdeal.τ).loc Cert.PrologueRefIdeal.main_arg5) = m' ((c.tc : Thread Cert.PrologueRefIdeal.nD Cert.PrologueRefIdeal.τ).loc Cert.PrologueRefIdeal.main_arg5)) := by
  refine (θ_run Cert.PrologueRefIdeal.defs _ _).mono (fun r hr c => ?_) (Cert.PrologueRefIdeal.Value.run (F := Ideal) m' g')
  obtain ⟨h9, h10, hk⟩ := hr c
  obtain ⟨e0, e1, e2, e3, e4, e5⟩ := h c
  refine ⟨?_, ?_, hk⟩
  · rw [h9, e0, e1, e2, e3, cand_eq]
    unfold k0_pay2
    dsimp only
    rw [pay1_eq]
    rfl
  · rw [h10, e0, e1, e2, e3, e4, e5, part_eq, parts_eq]
    rfl

end Cert.PrologueIdeal.Call
-- ==== Proof.Stripe.lean ====
/- The stripes of the slots: the floor division by 128 as the scalar unit and the host compute it, and what the
   precondition of the scatter call says of the sixteen integers. -/
module

public import proofs.«01_k».proof.Proof.Gen.Pre_apart
public import Idealize.ShloMosaic.Lib.ReduceAll
public import Idealize.ShloMosaic.Lib.Pointwise

@[expose] public section

noncomputable section

namespace Cert.Stripe

open Idealize.ShloMosaic

/-- The floor division by 128 as the kernel spells it: the truncated quotient, less one where the signs differ and the
    remainder is not zero. -/
def floorDiv (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 128#32 0#32)) (Scalar.extui (Scalar.cmpi .slt 128#32 0#32))))
    (Scalar.cmpi .ne (Scalar.remsi v 128#32) 0#32)) (Scalar.subi (Scalar.divsi v 128#32) 1#32) (Scalar.divsi v 128#32)

/-- The quotient of a small word by 128 is the unsigned one, on either unit. -/
theorem divsi_eq (u : ArithUnit) (v : BitVec 32) (h : v.toNat < 8192) : IntOp.divsi u v 128#32 = v / 128#32 := by
  have hm : v.msb = false := by rw [BitVec.msb_eq_decide]; simp; omega
  have hc : ¬ IntOp.SDivCorner v 128#32 := by
    rintro (h | ⟨_, h⟩) <;> revert h <;> decide
  unfold IntOp.divsi
  rw [if_neg hc, BitVec.sdiv_eq, hm]
  rfl

theorem ones (u : BitVec 1) : IntOp.andi 0#1 u = 0#1 := by
  rcases BitVec.eq_zero_or_eq_one u with rfl | rfl <;> decide

theorem zero_slt (v : BitVec 32) (h : v.toNat < 8192) : v.slt 0#32 = false := by
  have : v.toInt = v.toNat := by rw [BitVec.toInt_eq_toNat_cond]; split <;> omega
  simp [BitVec.slt, this]

theorem slt_of_ne (v : BitVec 32) (h : v.toNat < 8192) (h0 : v ≠ 0#32) : (0#32).slt v = true := by
  have : v.toInt = v.toNat := by rw [BitVec.toInt_eq_toNat_cond]; split <;> omega
  have : v.toNat ≠ 0 := fun e => h0 (BitVec.eq_of_toNat_eq e)
  simp [BitVec.slt, *]
  omega

/-- For a slot of the table the floor division is the unsigned quotient. -/
theorem floorDiv_eq (v : BitVec 32) (h : v.toNat < 8192) : floorDiv v = v / 128#32 := by
  by_cases h0 : v = 0#32
  · subst h0; decide
  · have e : Scalar.cmpi .sgt v 0#32 = 1#1 := by simp [Scalar.cmpi, IntOp.cmpi, slt_of_ne v h h0]
    have e' : Scalar.cmpi .slt v 0#32 = 0#1 := by simp [Scalar.cmpi, IntOp.cmpi, zero_slt v h]
    unfold floorDiv
    rw [e, e', show Scalar.cmpi .ne (Scalar.subi (Scalar.extui 1#1) (Scalar.extui 0#1))
      (Scalar.subi (Scalar.extui (Scalar.cmpi .sgt 128#32 0#32)) (Scalar.extui (Scalar.cmpi .slt 128#32 0#32))) = 0#1 from by decide,
      show ∀ u, Scalar.andi 0#1 u = 0#1 from ones]
    exact divsi_eq .scalar v h

end Cert.Stripe

namespace Cert.Pre_apart

open Cert.Pre_apart Idealize.ShloMosaic Facts

variable [Facts]

/-- The host's floor division by 128, at one place. -/
theorem floor_divide_at {F : FTy → Type} [FloatOps F] (x : IVec S8 32) (b : S8.Idx) (h : (x b).toNat < 8192) :
    fn_floor_divide (F := F) x (constantI S_ 32 128#32) b = x b / 128#32 := by
  have e : fn_floor_divide (F := F) x (constantI S_ 32 128#32) b = Scalar.select (IntOp.andi
      (IntOp.cmpi .ne (if x b = 0 then 0 else if (x b).msb then -1 else 1)
        (if (128#32 : BitVec 32) = 0 then 0 else if (128#32 : BitVec 32).msb then -1 else 1)) (IntOp.cmpi .ne (IntOp.remsi .host (x b) 128#32) 0#32))
      (IntOp.divsi .host (x b) 128#32 - 1#32) (IntOp.divsi .host (x b) 128#32) := rfl
  rw [e]
  by_cases h0 : x b = 0#32
  · rw [h0]; decide
  · have hm : (x b).msb = false := by rw [BitVec.msb_eq_decide]; simp; omega
    rw [if_neg (show ¬ x b = 0 from h0), hm, show IntOp.cmpi .ne (if false = true then -1 else 1)
        (if (128#32 : BitVec 32) = 0 then 0 else if (128#32 : BitVec 32).msb then -1 else 1) = 0#1 from by decide, Stripe.ones]
    exact Stripe.divsi_eq .host _ h

variable {F : FTy → Type} [FloatOps F] (a0 : FVec F S1153x8192 .f32) (a1 : IVec S16 32) (a2 : FVec F S1153x8 .f32)

/-- The slot of batch entry `b`. -/
def slot (b : Fin 8) : BitVec 32 := a1 (ix1 ⟨b.val, by have := b.isLt; show b.val < 16; omega⟩)

/-- The first eight of the sixteen integers. -/
theorem slice_at (b : Fin 8) : extractStridedSlice S8 ![0] a1 slices_S16_S8_0 (ix1 b) = slot a1 b := by
  simp only [pointwise]
  exact congrArg a1 (congrArg ix1 (Fin.ext (Nat.zero_add _)))

/-- What the precondition says: every slot lies in the table, and a stripe that comes again after another has not been
    left in between. -/
theorem of_fn (h : fn a0 a1 a2 = fun _ => 1#1) :
    (∀ b, (slot a1 b).toNat < 8192) ∧ ∀ (i : Fin 8) (j : Fin 7), i.val ≤ j.val →
      slot a1 i / 128#32 = slot a1 j.succ / 128#32 → slot a1 j.succ / 128#32 = slot a1 j.castSucc / 128#32 := by
  have h0 := congrFun h ValueIdx.ix0
  unfold fn fn_part1 at h0
  dsimp only at h0
  obtain ⟨h1, h2⟩ := IntOp.andi_eq_one.1 h0
  have inside : ∀ b, (slot a1 b).toNat < 8192 := by
    intro b
    obtain ⟨l, r⟩ := IntOp.andi_eq_one.1 (Host.reduce_andi_all _ _ _ _ _ h1 (ix1 b))
    replace l : IntOp.cmpi .sge (extractStridedSlice S8 ![0] a1 slices_S16_S8_0 (ix1 b)) 0#32 = 1#1 := l
    replace r : IntOp.cmpi .slt (extractStridedSlice S8 ![0] a1 slices_S16_S8_0 (ix1 b)) 8192#32 = 1#1 := r
    rw [slice_at] at l r
    have l' : (0#32).sle (slot a1 b) = true := by
      by_contra e
      rw [Bool.not_eq_true] at e
      simp [IntOp.cmpi, e] at l
    have r' : (slot a1 b).slt 8192#32 = true := by
      by_contra e
      rw [Bool.not_eq_true] at e
      simp [IntOp.cmpi, e] at r
    have l'' : 0 ≤ (slot a1 b).toInt := by simpa [BitVec.sle] using l'
    have r'' : (slot a1 b).toInt < 8192 := by simpa [BitVec.slt] using r'
    rw [BitVec.toInt_eq_toNat_cond] at l'' r''
    have := (slot a1 b).isLt
    split at l'' <;> omega
  have fd : ∀ b : Fin 8, fn_floor_divide (F := F) (extractStridedSlice S8 ![0] a1 slices_S16_S8_0) (constantI S_ 32 128#32) (ix1 b)
      = slot a1 b / 128#32 := fun b => by
    rw [floor_divide_at _ _ (by rw [slice_at]; exact inside b), slice_at]
  refine ⟨inside, fun i j hij he => ?_⟩
  have h3 := Host.reduce_andi_all _ _ _ _ _ h2 (ix2 i j)
  simp only [pointwise] at h3
  replace h3 : IntOp.ori (IntOp.ori
      (IntOp.cmpi .ne (fn_floor_divide (F := F) (extractStridedSlice S8 ![0] a1 slices_S16_S8_0) (constantI S_ 32 128#32) (ix1 i))
        (fn_floor_divide (F := F) (extractStridedSlice S8 ![0] a1 slices_S16_S8_0) (constantI S_ 32 128#32)
          (ix1 (⟨1 + j.val, by omega⟩ : Fin 8))))
      (IntOp.cmpi .eq (fn_floor_divide (F := F) (extractStridedSlice S8 ![0] a1 slices_S16_S8_0) (constantI S_ 32 128#32)
          (ix1 (⟨1 + j.val, by omega⟩ : Fin 8)))
        (fn_floor_divide (F := F) (extractStridedSlice S8 ![0] a1 slices_S16_S8_0) (constantI S_ 32 128#32)
          (ix1 (⟨0 + j.val, by omega⟩ : Fin 8)))))
      (IntOp.cmpi .sge (BitVec.ofNat 32 i.val) (IntOp.addi 1#32 (BitVec.ofNat 32 j.val))) = 1#1 := h3
  rw [show (⟨1 + j.val, by omega⟩ : Fin 8) = j.succ from Fin.ext (Nat.add_comm _ _),
    show (⟨0 + j.val, by omega⟩ : Fin 8) = j.castSucc from Fin.ext (Nat.zero_add _), fd, fd, fd, he,
    show IntOp.cmpi .ne (slot a1 j.succ / 128#32) (slot a1 j.succ / 128#32) = 0#1 from by simp [IntOp.cmpi],
    show IntOp.cmpi .sge (BitVec.ofNat 32 i.val) (IntOp.addi 1#32 (BitVec.ofNat 32 j.val)) = 0#1 from by
      clear he h3; revert i j; decide] at h3
  by_contra hn
  simp [IntOp.cmpi, beq_eq_false_iff_ne.2 hn] at h3
  revert h3; decide

end Cert.Pre_apart

end
-- ==== Proof.ScatterOk.lean ====
/- The side condition of the scatter call's pipeline, from the precondition: every stripe lies inside the table, and no
   stripe is read after it was written back. Once for the kernel and once for its ideal program. -/
module

public import proofs.«01_k».proof.Proof.Stripe
public import proofs.«01_k».proof.Proof.Gen.Scatter.Frame
public import proofs.«01_k».proof.Proof.Gen.ScatterIdeal.Frame

@[expose] public section

noncomputable section

namespace Cert.Stripe

open Idealize.ShloMosaic

/-- The stripe of a slot of the table is one of the 64. -/
theorem toNat_div (v : BitVec 32) (h : v.toNat < 8192) : (v / 128#32).toNat < 64 := by
  rw [BitVec.toNat_udiv]
  exact Nat.div_lt_of_lt_mul (by simpa using h)

/-- A sequence of eight that never comes back to a value it has left: after a point that changes its value the value does
    not come again. -/
theorem no_return (s : Fin 8 → ℕ) (h : ∀ (i : Fin 8) (j : Fin 7), i.val ≤ j.val → s i = s j.succ → s j.succ = s j.castSucc)
    (u u' : Fin 8) (hlt : u'.val < u.val) (hc : ∃ h : u'.val + 1 < 8, s ⟨u'.val + 1, h⟩ ≠ s u') : s u' ≠ s u := by
  obtain ⟨h1, hne⟩ := hc
  have key : ∀ (k : ℕ) (hk : u'.val + 1 + k < 8), s ⟨u'.val + 1 + k, hk⟩ ≠ s u' := by
    intro k
    induction k with
    | zero => exact fun _ => hne
    | succ k ih =>
      intro hk e
      have := h u' ⟨u'.val + 1 + k, by omega⟩ (by show u'.val ≤ u'.val + 1 + k; omega) e.symm
      exact ih (by omega) (this.symm.trans e)
  intro e
  refine key (u.val - (u'.val + 1)) (by omega) ?_
  rw [e]
  exact congrArg s (Fin.ext (by show u'.val + 1 + (u.val - (u'.val + 1)) = u.val; omega))

end Cert.Stripe

namespace Cert.ScatterIdeal.Call

open Cert.ScatterIdeal Cert.ScatterIdeal.Gen Idealize.ShloMosaic Idealize.ShloMosaic.TcCoe
open Cert.Pre_apart (slot)

variable {F : FTy → Type} [FloatOps F] (m : (ℓ : Loc nD τ sig) → Buf (Elt F) ℓ)

/-- The sixteen integers. -/
def ints : IVec S16 32 := m ((0 : Dev nD).tc.loc main_arg1)

/-- The slots lie in the table and no stripe comes back. -/
def Apart : Prop := (∀ b, (slot (ints m) b).toNat < 8192) ∧ ∀ (i : Fin 8) (j : Fin 7), i.val ≤ j.val →
  slot (ints m) i / 128#32 = slot (ints m) j.succ / 128#32 → slot (ints m) j.succ / 128#32 = slot (ints m) j.castSucc / 128#32

/-- The grid point's own coordinate. -/
def pt (i : grid0.Coords) : Fin 8 := i 0

/-- The word of the table that grid point `i` reads. -/
theorem at_point (i : grid0.Coords) :
    (tbl m).at 0 (Rect.unit (s := S16) (k0_off1 i) S1.size (k0_off1_inb i)) numel1_S1 = slot (ints m) (pt i) := by
  refine (congrFun (V_main_arg1 m 0) _).trans (congrArg (ints m) ?_)
  funext a
  match a with
  | ⟨0, _⟩ =>
    refine Fin.ext ?_
    show (BitVec.ofNat 32 (pt i).val).toNat + 1 * 0 = (pt i).val
    have := (pt i).isLt
    simp [BitVec.toNat_ofNat]
    omega

theorem pt_coords : ∀ t : Fin grid0.N, (pt (grid0.coords t)).val = t.val := by decide +kernel

/-- The stripe of batch entry `b`'s slot. -/
def stripe (b : Fin 8) : ℕ := (slot (ints m) b / 128#32).toNat

theorem transform1 (h : Apart m) (i : grid0.Coords) :
    cc0_transform_1 k0_off1_inb numel1_S1 (tbl m) i = ![0, (slot (ints m) (pt i) / 128#32).toNat] := by
  refine (show _ = ![0, (Stripe.floorDiv ((tbl m).at 0 (Rect.unit (s := S16) (k0_off1 i) S1.size (k0_off1_inb i)) numel1_S1)).toNat] from rfl).trans ?_
  rw [at_point, Stripe.floorDiv_eq _ (h.1 _)]

theorem transform2 (h : Apart m) (i : grid0.Coords) :
    cc0_transform_2 k0_off1_inb numel1_S1 (tbl m) i = ![0, (slot (ints m) (pt i) / 128#32).toNat] :=
  (show _ = cc0_transform_1 k0_off1_inb numel1_S1 (tbl m) i from rfl).trans (transform1 m h i)

theorem inside (x : BitVec 32) (h : x.toNat < 8192) (a : Fin 2) :
    ((![0, (x / 128#32).toNat] : Fin 2 → ℕ) a + 1) * S1153x128.size a ≤ S1153x8192.size a := by
  have := Stripe.toNat_div x h
  match a with
  | ⟨0, _⟩ => show (0 + 1) * 1153 ≤ 1153; omega
  | ⟨1, _⟩ => show ((x / 128#32).toNat + 1) * 128 ≤ 8192; omega

/-- The pipeline's side condition of the sixteen integers. -/
theorem ok (h : Apart m) : Ok m := by
  refine ⟨fun i => ⟨fun a => ?_, .inl rfl⟩, fun i => ⟨fun a => ?_, .inl rfl⟩, ?_⟩
  · rw [transform1 m h]; exact inside _ (h.1 _) a
  · rw [transform2 m h]; exact inside _ (h.1 _) a
  · refine ⟨rfl, rfl, rfl, fun a a' e => ?_, fun i a a' e => ?_, fun u u' hlt _ hfl => ?_⟩
    · obtain rfl : a = a' := Fin.ext e
      rfl
    · obtain rfl : a = a' := Fin.ext e
      rfl
    · have hs : ∀ t : Fin grid0.N, ix0 (tbl m) 2 (grid0.coords t) = ![0, stripe m (pt (grid0.coords t))] := fun t => transform2 m h _
      simp only [Pipeline.WinSpec.flushAt, Bool.and_eq_true, Bool.or_eq_true, decide_eq_true_eq, hs] at hfl
      simp only [hs]
      intro e
      refine Stripe.no_return (stripe m) (fun i j hij e => ?_) (pt (grid0.coords u)) (pt (grid0.coords u')) ?_ ?_ (congrFun e 1)
      · exact congrArg BitVec.toNat (h.2 i j hij (BitVec.eq_of_toNat_eq e))
      · rw [pt_coords, pt_coords]; exact hlt
      · rcases hfl.2 with h1 | ⟨h1, hne⟩
        · exact absurd h1 (by have := u.isLt; omega)
        · refine ⟨by rw [pt_coords]; exact h1, fun e => hne ?_⟩
          rw [← e]
          exact congrArg (fun k => ![0, stripe m k]) (Fin.ext ((pt_coords _).trans (congrArg (· + 1) (pt_coords u').symm)))

end Cert.ScatterIdeal.Call

namespace Cert.Scatter.Call
open Cert.Scatter Cert.Scatter.Gen Idealize.ShloMosaic Idealize.ShloMosaic.TcCoe

theorem ok (m : (ℓ : Loc nD τ sig) → Buf (Elt Bits) ℓ) (h : Cert.ScatterIdeal.Call.Apart (F := Bits) m) : Ok m :=
  Cert.ScatterIdeal.Call.ok (F := Bits) m h

end Cert.Scatter.Call

end
-- ==== Proof.ScatterStep.lean ====
/- What the body of the scatter call leaves in its output block: eight layers over the stripe it was given. -/
module

public import proofs.«01_k».proof.Proof.ScatterOk
public import Idealize.ShloMosaic.Lib.Pointwise

@[expose] public section

set_option maxRecDepth 16384

noncomputable section

namespace Cert.Stripe

open Idealize.ShloMosaic

/-- Entry `n` of a row of the table after the first `k` batch entries: the candidate of the last of them whose flag is
    positive and whose slot is `n`, else what was there. -/
def over {α : Type} (w : Fin 16 → BitVec 32) (cand : Fin 8 → α) (x : α) (n : ℕ) : ℕ → α
  | 0 => x
  | k + 1 => if IntOp.cmpi .sgt (w (Fin.ofNat 16 (k + 8))) 0#32 = 1#1 ∧ (w (Fin.ofNat 16 k)).toNat = n then cand (Fin.ofNat 8 k)
      else over w cand x n k

/-- A slot lies in stripe `t / 128` at lane `j` exactly when it is the `j`-th of that stripe. -/
theorem lane_iff (s t : BitVec 32) (hs : s.toNat < 8192) (ht : t.toNat < 8192) (j : Fin 128) :
    (floorDiv s = floorDiv t ∧ BitVec.ofNat 32 j.val = s - floorDiv s * 128#32) ↔ s.toNat = 128 * (t / 128#32).toNat + j.val := by
  rw [floorDiv_eq s hs, floorDiv_eq t ht, ← BitVec.toNat_inj, ← BitVec.toNat_inj]
  have := j.isLt
  simp only [BitVec.toNat_ofNat, BitVec.toNat_sub, BitVec.toNat_mul, BitVec.toNat_udiv, Nat.reducePow, Nat.reduceMod]
  omega

end Cert.Stripe

namespace Cert.ScatterIdeal.Call

open Cert.ScatterIdeal Cert.ScatterIdeal.Gen Idealize.ShloMosaic Idealize.ShloMosaic.TcCoe Idealize.ShloMosaic.Tactic
open Cert.Pre_apart (slot)

variable {F : FTy → Type} [FloatOps F]

/-- A batch entry's column of the candidate rows, written over one lane of the stripe: the lane of its slot `s`, provided
    its flag `f` is positive and its slot lies in stripe `my`. -/
def layer (my s f : BitVec 32) (o : Fin 2 → ℕ) (ho : S1153x8.Slices o S1153x1) (cT : Vec F S1153x8 .f32) (x : FVec F S1153x128 .f32) :
    FVec F S1153x128 .f32 :=
  select (andi (broadcast S1153x128 (Scalar.andi (Scalar.cmpi .sgt f 0#32) (Scalar.cmpi .eq (Stripe.floorDiv s) my)))
      (cmpi .eq (iota .tc S1153x128 32 [1] iota_S1153x128_d1_w32) (broadcast S1153x128 (Scalar.subi s (Scalar.muli (Stripe.floorDiv s) 128#32)))))
    (broadcastTo S1153x128 (shapeCast S1153x1 (extractStridedSlice S1153x1 o cT ho) shapeCasts_S1153x1_S1153x1) broadcasts_S1153x1_S1153x128) x

theorem layer_at (my s f : BitVec 32) (b : Fin 8) (ho : S1153x8.Slices ![0, b.val] S1153x1) (cT : Vec F S1153x8 .f32) (x : FVec F S1153x128 .f32)
    (r : Fin 1153) (j : Fin 128) :
    layer my s f ![0, b.val] ho cT x (ix2 r j)
      = if IntOp.cmpi .sgt f 0#32 = 1#1 ∧ Stripe.floorDiv s = my ∧ BitVec.ofNat 32 j.val = s - Stripe.floorDiv s * 128#32 then cT (ix2 r b) else x (ix2 r j) := by
  unfold layer
  simp only [pointwise]
  rw [show List.foldl (fun n a => n * ![1153, 128] a + (ix2 r j a).val) 0 [1] = j.val from (show 0 * 128 + j.val = j.val by omega)]
  refine congrArg₂ (fun (c : BitVec 1) (y : F .f32) => Scalar.select c y (x (ix2 r j))) rfl (congrArg cT (congrArg₂ ix2
    (Fin.ext (show 0 + r.val = r.val by omega)) (Fin.ext (show b.val + 0 = b.val from rfl)))) |>.trans ?_
  have hc : ∀ u v : BitVec 32, IntOp.cmpi .eq u v = 1#1 ↔ u = v := fun u v => by
    by_cases h : u = v
    · simp [IntOp.cmpi, h]
    · refine iff_of_false ?_ h
      show ¬ BitVec.ofBool (u == v) = 1#1
      rw [beq_eq_decide, decide_eq_false h]
      decide
  exact if_congr ((IntOp.andi_eq_one).trans ((and_congr (IntOp.andi_eq_one.trans (and_congr Iff.rfl (hc _ _))) (hc _ _)).trans and_assoc)) rfl rfl

/-- The word a scalar load reads. -/
theorem ld_word (X : S16.Idx → Elt F .i32) (k : ℕ) (inb : ∀ a, (![k] : Fin 1 → ℕ) a + (![1] : Fin 1 → ℕ) a ≤ S16.size a)
    (j : (Rect.unit (s := S16) ![k] ![1] inb).shape.Idx) :
    View.ld X (Rect.unit (s := S16) ![k] ![1] inb) j = X (ix1 ⟨k, inb 0⟩) := by
  refine congrArg X ?_
  funext a
  match a with
  | ⟨0, _⟩ =>
    have : (j 0).val < 1 := (j 0).isLt
    exact Fin.ext (show k + 1 * (j 0).val = k by omega)

/-- All eight layers, in order. -/
def layers (my : BitVec 32) (w : Fin 16 → BitVec 32) (cT : Vec F S1153x8 .f32) (x : FVec F S1153x128 .f32) : FVec F S1153x128 .f32 :=
  layer my (w 7) (w 15) ![0, 7] slices_S1153x8_o0_7_S1153x1 cT
    (layer my (w 6) (w 14) ![0, 6] slices_S1153x8_o0_6_S1153x1 cT
    (layer my (w 5) (w 13) ![0, 5] slices_S1153x8_o0_5_S1153x1 cT
    (layer my (w 4) (w 12) ![0, 4] slices_S1153x8_o0_4_S1153x1 cT
    (layer my (w 3) (w 11) ![0, 3] slices_S1153x8_o0_3_S1153x1 cT
    (layer my (w 2) (w 10) ![0, 2] slices_S1153x8_o0_2_S1153x1 cT
    (layer my (w 1) (w 9) ![0, 1] slices_S1153x8_o0_1_S1153x1 cT
    (layer my (w 0) (w 8) ![0, 0] slices_S1153x8_o0_0_S1153x1 cT
    (x))))))))

section
variable (w : Fin 16 → BitVec 32) (t : BitVec 32) (cT : Vec F S1153x8 .f32) (x0 : FVec F S1153x128 .f32) (r : Fin 1153) (j : Fin 128)

/-- One layer, one batch entry further. -/
theorem layer_step (hw : ∀ k : Fin 8, (w (Fin.ofNat 16 k.val)).toNat < 8192) (ht : t.toNat < 8192) (k : Fin 8) (ho : S1153x8.Slices ![0, k.val] S1153x1)
    (x : FVec F S1153x128 .f32)
    (hx : x (ix2 r j) = Stripe.over w (fun b => cT (ix2 r b)) (x0 (ix2 r j)) (128 * (t / 128#32).toNat + j.val) k.val) :
    layer (Stripe.floorDiv t) (w (Fin.ofNat 16 k.val)) (w (Fin.ofNat 16 (k.val + 8))) ![0, k.val] ho cT x (ix2 r j)
      = Stripe.over w (fun b => cT (ix2 r b)) (x0 (ix2 r j)) (128 * (t / 128#32).toNat + j.val) (k.val + 1) := by
  rw [layer_at, hx]
  exact if_congr (and_congr Iff.rfl (Stripe.lane_iff _ _ (hw k) ht j)) (congrArg (fun b => cT (ix2 r b)) (Fin.ext (Nat.mod_eq_of_lt k.isLt).symm)) rfl

/-- All eight. -/
theorem layers_at (hw : ∀ k : Fin 8, (w (Fin.ofNat 16 k.val)).toNat < 8192) (ht : t.toNat < 8192) :
    layers (Stripe.floorDiv t) w cT x0 (ix2 r j)
      = Stripe.over w (fun b => cT (ix2 r b)) (x0 (ix2 r j)) (128 * (t / 128#32).toNat + j.val) 8 :=
  layer_step w t cT x0 r j hw ht 7 _ _ <| layer_step w t cT x0 r j hw ht 6 _ _ <| layer_step w t cT x0 r j hw ht 5 _ _ <|
    layer_step w t cT x0 r j hw ht 4 _ _ <| layer_step w t cT x0 r j hw ht 3 _ _ <| layer_step w t cT x0 r j hw ht 2 _ _ <|
    layer_step w t cT x0 r j hw ht 1 _ _ <| layer_step w t cT x0 r j hw ht 0 _ _ rfl

end

/-- The words of the table. -/
def words {c : Dev nD} (xt0 : TbBuf0 (F := F) c tbM0_0) (k : Fin 16) : BitVec 32 :=
  View.read (Elt F) (View.whole main_arg1) xt0 (ix1 k)

/-- The word grid point `i` starts from. -/
def ptWord {c : Dev nD} (xt0 : TbBuf0 (F := F) c tbM0_0) (i : grid0.Coords) : BitVec 32 :=
  View.ld (Val := Elt F) (e' := .i32) (View.read (Elt F) (View.whole main_arg1) xt0) (Rect.unit (s := S16) (k0_off1 i) S1.size (k0_off1_inb i))
    (Shape.Idx.first (numel1_S1.symm ▸ Nat.one_pos))

/-- 128 is positive. -/
theorem sign128 : Scalar.subi (Scalar.extui (Scalar.cmpi .sgt 128#32 0#32)) (Scalar.extui (Scalar.cmpi .slt 128#32 0#32)) = 1#32 := by decide

/-- What the body leaves in its output block. -/
theorem out_eq (c : Dev nD) (i : grid0.Coords) (arg2 : Memref sig .tc .vmem S1153x8 .f32) (harg2 : arg2.IsWhole) (arg3 : Memref sig .tc .vmem S1153x128 .f32) (harg3 : arg3.IsWhole) (arg4 : Memref sig .tc .vmem S1153x128 .f32) (harg4 : arg4.IsWhole)
    (x0 : Vec F S1153x8 .f32) (x1 : Vec F S1153x128 .f32) (xt0 : TbBuf0 (F := F) c tbM0_0) :
    out0_A_2 c i arg2 harg2 arg3 harg3 arg4 harg4 x0 x1 xt0 = layers (Stripe.floorDiv (ptWord xt0 i)) (words xt0) x0 x1 := by
  unfold out0_A_2
  rw [View.read_writes_junk_eq_canon ]
  unfold kernelRun0_A
  dsimp only
  sl_unfold_words
  rw [View.canon_unit_zero (by decide)]
  simp only [View.readAt_eq_ld, harg2.read_unread, harg3.read_unread, View.ld_unit_zero (S := S1153x8) (by decide : (![0, 0] : Fin 2 → ℕ) = fun _ => 0), View.ld_unit_zero (S := S1153x128) (by decide : (![0, 0] : Fin 2 → ℕ) = fun _ => 0)]

  repeat rw [ld_word]
  unfold words ptWord
  generalize View.read (Elt F) (View.whole main_arg1) xt0 = X
  simp only [k0_pay1, k0_pay2, k0_pay3, k0_pay4, k0_pay5, k0_pay6, k0_pay7, k0_pay8, k0_pay9, k0_pay10, layers, layer, Stripe.floorDiv, sign128]
  rfl

end Cert.ScatterIdeal.Call
-- ==== Proof.ScatterValue.lean ====
/- What the scatter call leaves in the table: entry by entry, the candidate row of the last batch entry that is flagged and
   whose slot it is, else what was there. -/
module

public import proofs.«01_k».proof.Proof.ScatterStep
public import Idealize.ShloMosaic.Lib.Claim

@[expose] public section

noncomputable section

namespace Cert.Stripe

/-- An entry no slot names keeps what was there. -/
theorem over_none {α : Type} (w : Fin 16 → BitVec 32) (cand : Fin 8 → α) (x : α) (n : ℕ)
    (h : ∀ k : Fin 8, (w (Fin.ofNat 16 k.val)).toNat ≠ n) : ∀ k ≤ 8, over w cand x n k = x
  | 0, _ => rfl
  | k + 1, hk => (if_neg fun e => h ⟨k, by omega⟩ e.2).trans (over_none w cand x n h k (by omega))

end Cert.Stripe

namespace Cert.ScatterIdeal.Call

open Cert.ScatterIdeal Cert.ScatterIdeal.Gen Idealize.ShloMosaic Idealize.ShloMosaic.TcCoe Idealize.ShloMosaic.Pipeline
open Cert.Pre_apart (slot)

variable {F : FTy → Type} [FloatOps F] (m : (ℓ : Loc nD τ sig) → Buf (Elt F) ℓ)

/-- The table and the candidates. -/
def aTbl : FVec F S1153x8192 .f32 := m ((0 : Dev nD).tc.loc main_arg0)
def aCand : FVec F S1153x8 .f32 := m ((0 : Dev nD).tc.loc main_arg2)

/-- The new table. -/
def newTbl : FVec F S1153x8192 .f32 := fun y =>
  Stripe.over (fun k => ints m (ix1 k)) (fun b => aCand m (ix2 (y 0) b)) (aTbl m y) (y 1).val 8

theorem V_v0 : V m 0 main_v0 = aTbl m := by
  entry_read
  rfl

/-- Entry `j` of the stripe of grid point `t`. -/
def col (h : Apart m) (t : Fin grid0.N) (j : Fin 128) : Fin 8192 :=
  ⟨128 * stripe m (pt (grid0.coords t)) + j.val, by
    have := Stripe.toNat_div _ (h.1 (pt (grid0.coords t)))
    have := j.isLt
    unfold stripe
    omega⟩

theorem blk0 (hO : Ok m) (t : Fin (cfgM m hO).N) (r : Fin 1153) (b : Fin 8) :
    (iblk m hO 0 0 t : Vec F S1153x8 .f32) (ix2 r b) = aCand m (ix2 r b) := by
  refine (View.read_apply (v := (((cfgM m hO).win 0).blk t).view) (V m 0 (arrRef spec0 0)) (ix2 r b)).trans ?_
  refine (congrFun (V_main_arg2 m 0) _).trans ?_
  refine congrArg (aCand m) (funext fun a => Fin.ext ?_)
  match a with
  | ⟨0, _⟩ => show 0 * 1153 + 1 * r.val = r.val; omega
  | ⟨1, _⟩ => show 0 * 8 + 1 * b.val = b.val; omega

theorem blk1 (h : Apart m) (hO : Ok m) (t : Fin (cfgM m hO).N) (r : Fin 1153) (j : Fin 128) :
    (iblk m hO 0 1 t : Vec F S1153x128 .f32) (ix2 r j) = aTbl m (ix2 r (col m h t j)) := by
  refine (View.read_apply (v := (((cfgM m hO).win 1).blk t).view) (V m 0 (arrRef spec0 1)) (ix2 r j)).trans ?_
  refine (congrFun (V_main_arg0 m 0) _).trans ?_
  refine congrArg (aTbl m) (funext fun a => Fin.ext ?_)
  match a with
  | ⟨0, _⟩ =>
    show cc0_transform_1 k0_off1_inb numel1_S1 (tbl m) (grid0.coords t) 0 * 1153 + 1 * r.val = r.val
    rw [transform1 m h]
    show 0 * 1153 + 1 * r.val = r.val
    omega
  | ⟨1, _⟩ =>
    show cc0_transform_1 k0_off1_inb numel1_S1 (tbl m) (grid0.coords t) 1 * 128 + 1 * j.val = _
    rw [transform1 m h]
    show stripe m (pt (grid0.coords t)) * 128 + 1 * j.val = 128 * stripe m (pt (grid0.coords t)) + j.val
    omega

theorem emb2 (h : Apart m) (hO : Ok m) (t : Fin (cfgM m hO).N) (r : Fin 1153) (j : Fin 128) :
    (((cfgM m hO).win 2).blk t).view.emb (ix2 r j) = ix2 r (col m h t j) := by
  refine (funext fun a => Fin.ext ?_)
  match a with
  | ⟨0, _⟩ =>
    show cc0_transform_2 k0_off1_inb numel1_S1 (tbl m) (grid0.coords t) 0 * 1153 + 1 * r.val = r.val
    rw [transform2 m h]
    show 0 * 1153 + 1 * r.val = r.val
    omega
  | ⟨1, _⟩ =>
    show cc0_transform_2 k0_off1_inb numel1_S1 (tbl m) (grid0.coords t) 1 * 128 + 1 * j.val = _
    rw [transform2 m h]
    show stripe m (pt (grid0.coords t)) * 128 + 1 * j.val = 128 * stripe m (pt (grid0.coords t)) + j.val
    omega

theorem words_eq : words (c := 0) (tbl m 0) = fun k => ints m (ix1 k) :=
  funext fun k => congrFun (V_main_arg1 m 0) (ix1 k)

theorem ptWord_eq (i : grid0.Coords) : ptWord (c := 0) (tbl m 0) i = slot (ints m) (pt i) := at_point m i

/-- What the body leaves, entry by entry. -/
theorem out_at (h : Apart m) (i : grid0.Coords) (arg2 : Memref sig .tc .vmem S1153x8 .f32) (harg2 : arg2.IsWhole) (arg3 : Memref sig .tc .vmem S1153x128 .f32) (harg3 : arg3.IsWhole) (arg4 : Memref sig .tc .vmem S1153x128 .f32) (harg4 : arg4.IsWhole)
    (x0 : Vec F S1153x8 .f32) (x1 : Vec F S1153x128 .f32) (r : Fin 1153) (j : Fin 128) :
    out0_A_2 0 i arg2 harg2 arg3 harg3 arg4 harg4 x0 x1 (tbl m 0) (ix2 r j)
      = Stripe.over (fun k => ints m (ix1 k)) (fun b => x0 (ix2 r b)) (x1 (ix2 r j)) (128 * stripe m (pt i) + j.val) 8 := by
  refine (congrFun (out_eq 0 i arg2 harg2 arg3 harg3 arg4 harg4 x0 x1 (tbl m 0)) (ix2 r j)).trans ?_
  refine (congrArg₂ (fun p w => layers (Stripe.floorDiv p) w x0 x1 (ix2 r j)) (ptWord_eq m i) (words_eq m)).trans ?_
  refine layers_at _ _ _ _ _ _ (fun k => ?_) (h.1 _)
  refine lt_of_eq_of_lt (congrArg BitVec.toNat (congrArg (ints m) (congrArg ix1 (Fin.ext ?_)))) (h.1 k)
  exact Nat.mod_eq_of_lt (by have := k.isLt; omega)

/-- What a grid point leaves in its output block. -/
theorem outs_at (h : Apart m) (hO : Ok m) (t : Fin (cfgM m hO).N) (r : Fin 1153) (j : Fin 128) :
    outsAt0 m hO 0 t (ix2 r j) = newTbl m (ix2 r (col m h t j)) := by
  refine (out_at m h (grid0.coords t) (ms0_0 m hO t) (hs0_0 m hO t) (ms0_1 m hO t) (hs0_1 m hO t) (ms0_2 m hO t) (hs0_2 m hO t)
    (iblk m hO 0 0 t) (iblk m hO 0 1 t) r j).trans ?_
  refine (congrArg₂ (fun f x => Stripe.over (fun k => ints m (ix1 k)) f x (128 * stripe m (pt (grid0.coords t)) + j.val) 8)
    (funext fun b => blk0 m hO t r b) (blk1 m h hO t r j)).trans ?_
  rfl

theorem flushed_eq (h : Apart m) (hO : Ok m) (t : Fin (cfgM m hO).N) :
    (dats m hO 0 0).flushed 2 t = (((cfgM m hO).win 2).blk t).view.read (Elt F) (newTbl m) := by
  refine (show (dats m hO 0 0).flushed 2 t = ((cfgM m hO).win 2).cut (grid0.coords t) ((dats m hO 0 0).after 2 t) from rfl).trans ?_
  rw [after0_2]
  refine funext fun (y : S1153x128.Idx) => ?_
  refine Eq.trans ?_ (show newTbl m ((((cfgM m hO).win 2).blk t).view.emb y) = _ from (View.read_apply (Val := Elt F) (v := (((cfgM m hO).win 2).blk t).view) (newTbl m) y).symm)
  obtain ⟨r, j, rfl⟩ : ∃ (r : Fin 1153) (j : Fin 128), y = ix2 r j := ⟨y 0, y 1, eq_ix2 y⟩
  exact (outs_at m h hO t r j).trans (congrArg (newTbl m) (emb2 m h hO t r j).symm)

/-- From any batch entry on there is a point of the same stripe that writes its block back. -/
theorem exists_flush (h : Apart m) (hO : Ok m) : ∀ (n : ℕ) (t : Fin (cfgM m hO).N), t.val + n = 7 →
    ∃ t' : Fin (cfgM m hO).N, ((cfgM m hO).win 2).flush t' = true ∧ stripe m (pt (grid0.coords t')) = stripe m (pt (grid0.coords t)) := by
  have hf : ∀ t : Fin (cfgM m hO).N, ((cfgM m hO).win 2).flush t
      = (true && (t.val + 1 = grid0.N || decide (∃ h : t.val + 1 < grid0.N, ix0 (tbl m) 2 (grid0.coords ⟨t.val + 1, h⟩) ≠ ix0 (tbl m) 2 (grid0.coords t)))) :=
    fun t => rfl
  have hs : ∀ t : Fin grid0.N, ix0 (tbl m) 2 (grid0.coords t) = ![0, stripe m (pt (grid0.coords t))] := fun t => transform2 m h _
  intro n
  induction n with
  | zero =>
    intro t ht
    refine ⟨t, ?_, rfl⟩
    rw [hf]
    have : t.val + 1 = grid0.N := by rw [N_0]; omega
    simp [this]
  | succ n ih =>
    intro t ht
    have h1 : t.val + 1 < grid0.N := by rw [N_0]; omega
    by_cases e : stripe m (pt (grid0.coords ⟨t.val + 1, h1⟩)) = stripe m (pt (grid0.coords t))
    · obtain ⟨t', a, b⟩ := ih ⟨t.val + 1, h1⟩ (by show t.val + 1 + n = 7; omega)
      exact ⟨t', a, b.trans e⟩
    · refine ⟨t, ?_, rfl⟩
      rw [hf]
      refine (Bool.true_and _).trans (Bool.or_eq_true_iff.2 (.inr (decide_eq_true ⟨h1, fun e' => e ?_⟩)))
      rw [hs, hs] at e'
      exact congrFun e' 1

/-- The output array after the call. -/
theorem final (h : Apart m) (hO : Ok m) : (dats m hO 0 0).arrAt 2 (cfgM m hO).N = newTbl m := by
  refine funext fun (i : S1153x8192.Idx) => ?_
  refine ((dats m hO 0 0).arrAt_eq_piecewise 2 (newTbl m) (fun t _ => flushed_eq m h hO t) i).trans ?_
  by_cases hc : ∃ t : Fin (cfgM m hO).N, ((cfgM m hO).win 2).flush t = true ∧ i ∈ (((cfgM m hO).win 2).blk t).view.set
  · exact if_pos hc
  · refine (if_neg hc).trans ?_
    refine (congrFun ((A_eq m hO 0 2).trans (V_v0 m)) i).trans ?_
    obtain ⟨r, n, rfl⟩ : ∃ (r : Fin 1153) (n : Fin 8192), i = ix2 r n := ⟨i 0, i 1, eq_ix2 i⟩
    refine (Stripe.over_none _ _ _ _ (fun k e => hc ?_) 8 le_rfl).symm
    replace e : (slot (ints m) k).toNat = n.val := by
      refine (congrArg BitVec.toNat (congrArg (ints m) (congrArg ix1 (Fin.ext ?_)))).trans e
      exact (Nat.mod_eq_of_lt (by have := k.isLt; omega)).symm
    have hk : k.val < grid0.N := by rw [N_0]; exact k.isLt
    obtain ⟨t, hf, hs⟩ := exists_flush m h hO (7 - k.val) ⟨k.val, hk⟩ (by show k.val + (7 - k.val) = 7; have := k.isLt; omega)
    refine ⟨t, hf, ?_⟩
    have hj : n.val % 128 < 128 := Nat.mod_lt _ (by omega)
    have : ix2 r n = (((cfgM m hO).win 2).blk t).view.emb (ix2 r (⟨n.val % 128, hj⟩ : Fin 128)) := by
      refine Eq.trans (congrArg (ix2 r) (Fin.ext ?_)) (emb2 m h hO t r ⟨n.val % 128, hj⟩).symm
      show n.val = 128 * stripe m (pt (grid0.coords t)) + n.val % 128
      rw [hs, show pt (grid0.coords ⟨k.val, hk⟩) = k from Fin.ext (pt_coords ⟨k.val, hk⟩)]
      unfold stripe
      rw [BitVec.toNat_udiv, e]
      show n.val = 128 * (n.val / 128) + n.val % 128
      omega
    rw [this]
    exact View.emb_mem_set _ _

end Cert.ScatterIdeal.Call
-- ==== Proof.ScatterRef.lean ====
/- The scatter reference's loop: after `k` trips the memory holds, entry by entry, the candidate row of the last of the
   first `k` batch entries that is flagged and whose slot it is, else what was there. -/
module

public import proofs.«01_k».proof.Proof.Gen.ScatterRefIdeal.Run
public import proofs.«01_k».proof.Proof.ScatterValue
public import Idealize.ShloMosaic.Lib.Pointwise
public import Idealize.ShloMosaic.Lib.Routing.OpsOne
public import Idealize.ShloMosaic.Lib.Routing.OpsPair
public import Idealize.ShloMosaic.Lib.DynamicIndex

@[expose] public section

noncomputable section

namespace Cert.ScatterRefIdeal.Loop

open Cert.ScatterRefIdeal Cert.ScatterRefIdeal.Gen Idealize.ShloMosaic Idealize.ShloMosaic.TcCoe
open Idealize.ShloMosaic.StableHlo (entryContents afterL_cons afterL_nil)

/-- One entry read out of eight. -/
theorem pick {α : Type} (x : S8.Idx → α) (st : Fin 1 → Int) (k : Fin 8) (hst : st 0 = (k.val : Int)) (h : S8.Slices (fun _ => 0) S1)
    (hc : S1.ShapeCasts S_) (y : S_.Idx) : shapeCast S_ (Host.dynamicSlice S1 x st h) hc y = x (ix1 k) := by
  have hk : S8.Slices (fun _ => k.val) S1 := ⟨rfl, fun a => by
    match a with
    | ⟨0, _⟩ => show k.val + 1 ≤ 8; have := k.isLt; omega⟩
  rw [Host.dynamicSlice_eq_extractStridedSlice S1 x st (fun _ => k.val) h hk (fun a => by
    match a with
    | ⟨0, _⟩ => exact hst)]
  have e : ∀ z : S1.Idx, extractStridedSlice S1 (fun _ => k.val) x hk z = x (ix1 k) := fun z => by
    refine congrArg x (funext fun a => Fin.ext ?_)
    match a with
    | ⟨0, _⟩ =>
      have : (z 0).val = 0 := Nat.lt_one_iff.1 (z 0).isLt
      show k.val + (z 0).val = k.val
      omega
  exact e _

/-- One row read out of eight. -/
theorem pickRow {α : Type} (x : S8x1153.Idx → α) (st : Fin 2 → Int) (k : Fin 8) (h0 : st 0 = (k.val : Int)) (h1 : st 1 = 0)
    (h : S8x1153.Slices (fun _ => 0) S1x1153) (hc : S1x1153.ShapeCasts S1153) (r : Fin 1153) :
    shapeCast S1153 (Host.dynamicSlice S1x1153 x st h) hc (ix1 r) = x (ix2 k r) := by
  have hk : S8x1153.Slices (fun a => ![k.val, 0] a) S1x1153 := ⟨rfl, fun a => by
    match a with
    | ⟨0, _⟩ => show k.val + 1 ≤ 8; have := k.isLt; omega
    | ⟨1, _⟩ => show 0 + 1153 ≤ 1153; omega⟩
  rw [Host.dynamicSlice_eq_extractStridedSlice S1x1153 x st (fun a => ![k.val, 0] a) h hk (fun a => by
    match a with
    | ⟨0, _⟩ => exact h0
    | ⟨1, _⟩ => exact h1)]
  simp only [pointwise]
  refine congrArg x (funext fun a => Fin.ext ?_)
  match a with
  | ⟨0, _⟩ => rfl
  | ⟨1, _⟩ => show 0 + r.val = r.val; omega

theorem one (z : S1.Idx) : z = ix1 0 := funext fun a => by
  match a with
  | ⟨0, _⟩ => exact Subsingleton.elim (α := Fin 1) _ _

/-- Where entry `w'` of the row lands, the one index word being `n` read signed. -/
theorem lands (idx : IVec S1 32) (n : Fin 8192) (hidx : (idx (ix1 0)).toInt = (n.val : Int)) (w' w : Fin 1153) (e : Fin 8192) :
    scatter_S8192x1153_S1_S1153_0_0_0_0.resultIdx? (ix1 w') idx = some (ix2 e w) ↔ e = n ∧ w' = w := by
  refine (Routing.resultIdx?_ix2 scatter_S8192x1153_S1_S1153_0_0_0_0 (ix1 w') idx e w).trans ?_
  have s0 : scatter_S8192x1153_S1_S1153_0_0_0_0.start (ix1 w') idx 0 = (n.val : Int) :=
    (dif_pos (List.mem_singleton.2 rfl)).trans ((congrArg (fun z => (idx z).toInt) (one _)).trans hidx)
  have s1 : scatter_S8192x1153_S1_S1153_0_0_0_0.start (ix1 w') idx 1 = 0 :=
    dif_neg fun h => absurd (List.mem_singleton.1 h) (by decide : (1 : Fin 2) ≠ 0)
  have w0 : scatter_S8192x1153_S1_S1153_0_0_0_0.window (ix1 w') 0 = 0 := rfl
  have w1 : scatter_S8192x1153_S1_S1153_0_0_0_0.window (ix1 w') 1 = w'.val := rfl
  rw [s0, s1, w0, w1, Fin.ext_iff, Fin.ext_iff]
  omega

/-- The row scatter in range: row `n` is the update, every other row is kept. -/
theorem scatter_row {α : Type} (x : S8192x1153.Idx → α) (idx : IVec S1 32) (upd : S1153.Idx → α) (n : Fin 8192)
    (hidx : (idx (ix1 0)).toInt = (n.val : Int)) (e : Fin 8192) (w : Fin 1153) :
    Host.scatter scatter_S8192x1153_S1_S1153_0_0_0_0 (fun _ b => b) x idx upd (ix2 e w) = if e = n then upd (ix1 w) else x (ix2 e w) := by
  have hl : ∀ j : S1153.Idx, scatter_S8192x1153_S1_S1153_0_0_0_0.resultIdx? j idx = some (ix2 e w) → e = n ∧ j = ix1 w := fun j hj => by
    obtain ⟨w', rfl⟩ : ∃ w' : Fin 1153, j = ix1 w' := ⟨j 0, eq_ix1 j⟩
    obtain ⟨a, b⟩ := (lands idx n hidx w' w e).1 hj
    exact ⟨a, congrArg ix1 b⟩
  by_cases h : e = n
  · exact (Routing.scatter_set_hit _ x idx upd _ _ (fun j hj => congrArg upd (hl j hj).2) (ix1 w) ((lands idx n hidx w w e).2 ⟨h, rfl⟩)).trans
      (if_pos h).symm
  · exact (Routing.scatter_set_miss _ x idx upd _ fun j hj => h (hl j hj).1).trans (if_neg h).symm

variable {F : FTy → Type} [FloatOps F]

/-- The loop's memory after a trip from flags, slots, candidates, counter and memory. -/
def trip (fl : IVec S8 1) (sl : IVec S8 32) (cd : FVec F S8x1153 .f32) (ct : IVec S_ 32) (tb : FVec F S8192x1153 .f32) : FVec F S8192x1153 .f32 :=
  let s : IVec S_ 32 := shapeCast S_ (Host.dynamicSlice S1 sl (fun k => ((![ct] : Fin 1 → IVec S_ 32) k (Shape.Idx.first h_S_)).toInt) sliceFits_S8_S1) shapeCasts_S1_S_
  select (broadcastInDim S8192x1153 ![] bcast_S_S8192x1153 (shapeCast S_ (Host.dynamicSlice S1 fl (fun k => ((![ct] : Fin 1 → IVec S_ 32) k (Shape.Idx.first h_S_)).toInt) sliceFits_S8_S1) shapeCasts_S1_S_))
    (Host.scatter scatter_S8192x1153_S1_S1153_0_0_0_0 (fun _ b => b) tb
      (broadcastInDim S1 ![] bcast_S_S1 (select (cmpi .slt s (constantI S_ 32 0#32)) (addi s (constantI S_ 32 8192#32)) s))
      (shapeCast S1153 (Host.dynamicSlice S1x1153 cd (fun k => ((![ct, constantI S_ 32 0#32] : Fin 2 → IVec S_ 32) k (Shape.Idx.first h_S_)).toInt) sliceFits_S8x1153_S1x1153) shapeCasts_S1x1153_S1153))
    tb

theorem trip_eq (V0 : Valuation τ sig (Elt F)) : Value.step_main_v6_4 V0
    = trip (V0 (Proc.devRef .tc main_v6_0)) (V0 (Proc.devRef .tc main_v6_1)) (V0 (Proc.devRef .tc main_v6_2)) (V0 (Proc.devRef .tc main_v6_3))
        (V0 (Proc.devRef .tc main_v6_4)) := rfl

/-- A trip at batch entry `k`: if it is flagged, its slot's row becomes its candidate. -/
theorem trip_at (fl : IVec S8 1) (sl : IVec S8 32) (cd : FVec F S8x1153 .f32) (ct : IVec S_ 32) (tb : FVec F S8192x1153 .f32)
    (k : Fin 8) (hct : ct = fun _ => BitVec.ofNat 32 k.val) (hs : (sl (ix1 k)).toNat < 8192) (e : Fin 8192) (w : Fin 1153) :
    trip fl sl cd ct tb (ix2 e w) = if fl (ix1 k) = 1#1 ∧ (sl (ix1 k)).toNat = e.val then cd (ix2 k w) else tb (ix2 e w) := by
  subst hct
  have hk : (BitVec.ofNat 32 k.val).toInt = (k.val : Int) := toInt_ofNat_of_lt (by have := k.isLt; omega)
  have hn : (sl (ix1 k)).toInt = ((⟨(sl (ix1 k)).toNat, hs⟩ : Fin 8192).val : Int) := by
    rw [BitVec.toInt_eq_toNat_of_lt (by omega)]
  unfold trip
  have hp : ∀ y : S_.Idx, shapeCast S_ (Host.dynamicSlice S1 sl (fun j => ((![fun _ => BitVec.ofNat 32 k.val] : Fin 1 → IVec S_ 32) j (Shape.Idx.first h_S_)).toInt) sliceFits_S8_S1) shapeCasts_S1_S_ y = sl (ix1 k) :=
    fun y => pick sl _ k hk _ _ y
  have hq : ∀ y : S_.Idx, shapeCast S_ (Host.dynamicSlice S1 fl (fun j => ((![fun _ => BitVec.ofNat 32 k.val] : Fin 1 → IVec S_ 32) j (Shape.Idx.first h_S_)).toInt) sliceFits_S8_S1) shapeCasts_S1_S_ y = fl (ix1 k) :=
    fun y => pick fl _ k hk _ _ y
  refine (if_congr (Q := fl (ix1 k) = 1#1) (Eq.congr (hq _) rfl) (scatter_row tb _ _ ⟨(sl (ix1 k)).toNat, hs⟩ ?_ e w) rfl).trans ?_
  · refine (congrArg BitVec.toInt ((select_slt_zero_of_nonneg _ _ _ _ ?_).trans (hp _))).trans hn
    refine le_of_le_of_eq ?_ (congrArg BitVec.toInt (hp _)).symm
    rw [hn]
    exact Int.natCast_nonneg _
  · rw [pickRow cd _ k hk rfl]
    by_cases hf : fl (ix1 k) = 1#1
    · rw [if_pos hf]
      exact if_congr (by rw [Fin.ext_iff]; exact ⟨fun h => ⟨hf, h.symm⟩, fun h => h.2.symm⟩) rfl rfl
    · rw [if_neg hf, if_neg fun h => hf h.1]

/-- The loop's state after `k` trips from given flags, slots, candidates and memory. -/
structure At (V0 : Valuation τ sig (Elt F)) (k : ℕ) (fl : IVec S8 1) (sl : IVec S8 32) (cd : FVec F S8x1153 .f32) (tb : FVec F S8192x1153 .f32) : Prop where
  fl : V0 (Proc.devRef .tc main_v6_0) = fl
  sl : V0 (Proc.devRef .tc main_v6_1) = sl
  cd : V0 (Proc.devRef .tc main_v6_2) = cd
  ct : V0 (Proc.devRef .tc main_v6_3) = fun _ => BitVec.ofNat 32 k
  tb : V0 (Proc.devRef .tc main_v6_4) = tb

/-- A trip keeps flags, slots and candidates, counts on, and makes `trip` of the memory. -/
theorem At.step {V0 : Valuation τ sig (Elt F)} {k : ℕ} {fl : IVec S8 1} {sl : IVec S8 32} {cd : FVec F S8x1153 .f32} {tb : FVec F S8192x1153 .f32}
    (h : At V0 k fl sl cd tb) : At (Value.STEP V0) (k + 1) fl sl cd (trip fl sl cd (fun _ => BitVec.ofNat 32 k) tb) where
  fl := (Value.STEP_main_v6_0 V0).trans h.fl
  sl := (Value.STEP_main_v6_1 V0).trans h.sl
  cd := (Value.STEP_main_v6_2 V0).trans h.cd
  ct := by
    refine (Value.STEP_main_v6_3 V0).trans ?_
    refine (show Value.step_main_v6_3 V0 = addi (V0 (Proc.devRef .tc main_v6_3)) (constantI S_ 32 1#32) from rfl).trans ?_
    rw [h.ct]
    exact funext fun _ => (BitVec.ofNat_add k 1).symm
  tb := by
    refine (Value.STEP_main_v6_4 V0).trans ((trip_eq V0).trans ?_)
    rw [h.fl, h.sl, h.cd, h.ct, h.tb]
    rfl

/-- The memory after `k` trips. -/
def mem (fl : IVec S8 1) (sl : IVec S8 32) (cd : FVec F S8x1153 .f32) (tb : FVec F S8192x1153 .f32) : ℕ → FVec F S8192x1153 .f32
  | 0 => tb
  | k + 1 => trip fl sl cd (fun _ => BitVec.ofNat 32 k) (mem fl sl cd tb k)

theorem at_iter {V0 : Valuation τ sig (Elt F)} {fl : IVec S8 1} {sl : IVec S8 32} {cd : FVec F S8x1153 .f32} {tb : FVec F S8192x1153 .f32}
    (h : At V0 0 fl sl cd tb) : ∀ k, At (Value.STEP^[k] V0) k fl sl cd (mem fl sl cd tb k)
  | 0 => h
  | k + 1 => by
    rw [Function.iterate_succ_apply']
    exact (at_iter h k).step

/-- The memory after `k` trips, entry by entry. -/
theorem mem_at (w : Fin 16 → BitVec 32) (fl : IVec S8 1) (sl : IVec S8 32) (cd : FVec F S8x1153 .f32) (tb : FVec F S8192x1153 .f32)
    (hfl : ∀ k : Fin 8, fl (ix1 k) = IntOp.cmpi .sgt (w (Fin.ofNat 16 (k.val + 8))) 0#32) (hsl : ∀ k : Fin 8, sl (ix1 k) = w (Fin.ofNat 16 k.val))
    (hs : ∀ k : Fin 8, (sl (ix1 k)).toNat < 8192) (e : Fin 8192) (r : Fin 1153) : ∀ k ≤ 8,
    mem fl sl cd tb k (ix2 e r) = Stripe.over w (fun b => cd (ix2 b r)) (tb (ix2 e r)) e.val k
  | 0, _ => rfl
  | k + 1, hk => by
    have hk' : k < 8 := by omega
    have e8 : Fin.ofNat 8 k = (⟨k, hk'⟩ : Fin 8) := Fin.ext (Nat.mod_eq_of_lt hk')
    refine (trip_at fl sl cd _ (mem fl sl cd tb k) ⟨k, hk'⟩ rfl (hs _) e r).trans ?_
    rw [hfl, hsl, mem_at w fl sl cd tb hfl hsl hs e r k (by omega)]
    show _ = if _ then cd (ix2 (Fin.ofNat 8 k) r) else _
    rw [e8]

variable (m : (ℓ : Loc nD τ sig) → Buf (Elt F) ℓ)

/-- The arguments. -/
def rTbl : FVec F S1153x8192 .f32 := m ((0 : Dev nD).tc.loc main_arg0)
def rInt : IVec S16 32 := m ((0 : Dev nD).tc.loc main_arg1)
def rCand : FVec F S1153x8 .f32 := m ((0 : Dev nD).tc.loc main_arg2)

/-- What the loop starts from. -/
theorem at_entry : At (entryContents Value.preI m 0) 0 (cmpi .sgt (extractStridedSlice S8 ![8] (rInt m) slices_S16_S8_8) (broadcastInDim S8 ![] bcast_S_S8 (constantI S_ 32 0#32)))
    (extractStridedSlice S8 ![0] (rInt m) slices_S16_S8_0) (transpose S8x1153 [1, 0] (rCand m) transposes_S1153x8_S8x1153_1_0)
    (transpose S8192x1153 [1, 0] (rTbl m) transposes_S1153x8192_S8192x1153_1_0) := by
  constructor
  all_goals
    simp only [entryContents, afterL_cons, afterL_nil]
    after_reads_simp
    rfl

/-- The reference's table. -/
theorem out_at (hs : ∀ k : Fin 8, (rInt m (ix1 ⟨k.val, by omega⟩)).toNat < 8192) (r : Fin 1153) (n : Fin 8192) :
    (Value.out_main_v7 (Value.STEP^[8] (entryContents Value.preI m 0)) : FVec F S1153x8192 .f32) (ix2 r n)
      = Stripe.over (fun k => rInt m (ix1 k)) (fun b => rCand m (ix2 r b)) (rTbl m (ix2 r n)) n.val 8 := by
  have h := at_iter (at_entry m) 8
  refine (show _ = (Value.STEP^[8] (entryContents Value.preI m 0) (Proc.devRef .tc main_v6_4) : FVec F S8192x1153 .f32) (ix2 n r) from ?_).trans ?_
  · unfold Value.out_main_v7
    simp only [pointwise]
  rw [h.tb]
  refine (mem_at (fun k => rInt m (ix1 k)) _ _ _ _ (fun k => ?_) (fun k => ?_) (fun k => ?_) n r 8 le_rfl).trans ?_
  · refine congrArg (fun z => IntOp.cmpi .sgt (rInt m z) 0#32) (funext fun a => Fin.ext ?_)
    match a with
    | ⟨0, _⟩ => show 8 + k.val = (k.val + 8) % 16; have := k.isLt; omega
  · refine congrArg (rInt m) (funext fun a => Fin.ext ?_)
    match a with
    | ⟨0, _⟩ => show 0 + k.val = k.val % 16; have := k.isLt; omega
  · refine lt_of_eq_of_lt (congrArg BitVec.toNat (congrArg (rInt m) (funext fun a => Fin.ext ?_))) (hs k)
    match a with
    | ⟨0, _⟩ => show 0 + k.val = k.val; omega
  · simp only [pointwise]

end Cert.ScatterRefIdeal.Loop

namespace Cert.ScatterIdeal.Call

open Cert.ScatterIdeal Cert.ScatterIdeal.Gen Idealize.ShloMosaic Idealize.ShloMosaic.TcCoe Idealize.SL.Sem

variable {F : FTy → Type} [FloatOps F] (m : (ℓ : Loc nD τ sig) → Buf (Elt F) ℓ)

/-- What the scatter call leaves: its result is `newTbl`, its arguments are kept. -/
theorem run (g : Dev nD → PrngReg) (h : Apart m) :
    θ_run (defs (F := F)) (onTc (τ := τ) (main (F := F))) ⟨m, fun _ => 0, g⟩ (fun r => ∀ c : Dev nD,
      r.2.mem ((c.tc : Thread nD τ).loc main_v0) = newTbl m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hO := ok m h
  refine (θ_run (defs (F := F)) _ _).mono (fun r p c => ?_) (θ_run_and (run_main m g hO) (unchanged m g hO))
  obtain rfl : c = 0 := Subsingleton.elim _ _
  exact ⟨((p.1 0).1 2).trans (final m h hO), p.2 0⟩

/-- The reference leaves the same table. -/
theorem run_ref (m' : (ℓ : Loc Cert.ScatterRefIdeal.nD Cert.ScatterRefIdeal.τ Cert.ScatterRefIdeal.sig) → Buf (Elt F) ℓ)
    (g' : Dev Cert.ScatterRefIdeal.nD → PrngReg) (h : Apart m)
    (h0 : ScatterRefIdeal.Loop.rTbl m' = aTbl m) (h1 : ScatterRefIdeal.Loop.rInt m' = ints m) (h2 : ScatterRefIdeal.Loop.rCand m' = aCand m) :
    (ScatterRefIdeal.Value.out_main_v7 (ScatterRefIdeal.Value.STEP^[8] (StableHlo.entryContents ScatterRefIdeal.Value.preI m' 0)) : FVec F S1153x8192 .f32)
      = newTbl m := by
  refine funext fun (y : S1153x8192.Idx) => ?_
  obtain ⟨r, n, rfl⟩ : ∃ (r : Fin 1153) (n : Fin 8192), y = ix2 r n := ⟨y 0, y 1, eq_ix2 y⟩
  refine (ScatterRefIdeal.Loop.out_at m' (fun k => ?_) r n).trans ?_
  · rw [h1]
    exact h.1 k
  · rw [h0, h1, h2]
    rfl

end Cert.ScatterIdeal.Call
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite
public import proofs.«01_k».proof.Proof.Gen.Prologue.Frame
public import proofs.«01_k».proof.Proof.Gen.PrologueIdeal.Frame
public import proofs.«01_k».proof.Proof.Gen.PrologueIdeal.Value
public import proofs.«01_k».proof.Proof.Gen.PrologueRefIdeal.Run
public import proofs.«01_k».proof.Proof.Gen.Pre_apart
public import proofs.«01_k».proof.Proof.Gen.Scatter.Frame
public import proofs.«01_k».proof.Proof.Gen.ScatterIdeal.Frame
public import proofs.«01_k».proof.Proof.Gen.ScatterRefIdeal.Run
public import proofs.«01_k».proof.Proof.Equal
public import proofs.«01_k».proof.Proof.Finite
public import proofs.«01_k».proof.Proof.Prelude
public import proofs.«01_k».proof.Proof.ScatterRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The frame of the score reference. -/
theorem frame_ri : quiescent_ReferenceIdeal := fun m g _ =>
  (θ_run (Cert.ReferenceIdeal.defs (F := Ideal)) _ _).mono (fun r h => And.intro (fun c => (h c).2.2)
    (sem_eq_zero_of_no_sems (by decide) r.2)) (Cert.ReferenceIdeal.Ref.run (F := Ideal) m g)

/-- The score call's two results are the reference's. -/
theorem algebraic : algebraic_KernelIdeal_ReferenceIdeal_pre_finite := by
  intro m g m' g' hpre hargs
  refine ⟨Cert.KernelIdeal.Value.G5 m, Cert.KernelIdeal.Value.G6 m, Cert.KernelIdeal.Value.run m g, ?_⟩
  refine (θ_run Cert.ReferenceIdeal.defs _ _).mono (fun r h c => ?_) (Cert.ReferenceIdeal.Ref.run (F := Ideal) m' g')
  obtain ⟨h35, h34, hk⟩ := h c
  obtain ⟨e0, e1, e2, e3, e4, e5⟩ := hargs c
  obtain ⟨r3, r4⟩ := Cert.Pre_finite.reals _ _ _ _ _ _ (hpre c)
  have hw : Cert.KernelIdeal.Step.RealW m c := fun f => r3 _
  refine ⟨?_, ?_, hk⟩
  · rw [h35, e0]
    exact (Cert.KernelIdeal.Step.memT_eq m c hw).symm
  · rw [h34, e0, e1, e2, e3, e4, e5]
    exact (Cert.Equal.meta_eq m c hw _ (r4 _)).symm

/-- The frame of the prologue's reference. -/
theorem frame_pre : quiescent_PrologueRefIdeal := fun m g _ =>
  (θ_run (Cert.PrologueRefIdeal.defs (F := Ideal)) _ _).mono (fun r h => And.intro (fun c => (h c).2.2)
    (sem_eq_zero_of_no_sems (by decide) r.2)) (Cert.PrologueRefIdeal.Value.run (F := Ideal) m g)

/-- The prologue call's two results are the reference's. -/
theorem algebraic_pre : algebraic_PrologueIdeal_PrologueRefIdeal := fun m g m' g' _ hargs =>
  ⟨fun c => (Cert.PrologueIdeal.Gen.dats m 0 c).arrAt 6 _, fun c => (Cert.PrologueIdeal.Gen.dats m 0 c).arrAt 7 _,
    Cert.PrologueIdeal.Value.run_blocks m g, Cert.PrologueIdeal.Call.equal m g m' g' hargs⟩

/-- The frame of the scatter's reference. -/
theorem frame_scatter_ref : quiescent_ScatterRefIdeal := fun m g _ =>
  (θ_run (Cert.ScatterRefIdeal.defs (F := Ideal)) _ _).mono (fun r h => And.intro (fun c => (h c).2)
    (sem_eq_zero_of_no_sems (by decide) r.2)) (Cert.ScatterRefIdeal.Value.run (F := Ideal) m g)

/-- The scatter call's result is the reference's. -/
theorem algebraic_scatter : algebraic_ScatterIdeal_ScatterRefIdeal := by
  intro m g m' g' hpre hargs
  have h : Cert.ScatterIdeal.Call.Apart m := Cert.Pre_apart.of_fn _ _ _ (hpre 0)
  refine ⟨fun _ => Cert.ScatterIdeal.Call.newTbl m, Cert.ScatterIdeal.Call.run m g h, ?_⟩
  refine (θ_run Cert.ScatterRefIdeal.defs _ _).mono (fun r p c => ?_) (Cert.ScatterRefIdeal.Value.run (F := Ideal) m' g')
  obtain rfl : c = 0 := Subsingleton.elim _ _
  obtain ⟨e0, e1, e2⟩ := hargs 0
  exact ⟨(p 0).1.trans (Cert.ScatterIdeal.Call.run_ref m m' g' h e0 e1 e2), (p 0).2⟩

theorem claim : Cert.Claim :=
  ⟨Cert.Kernel.Gen.facts, Cert.KernelIdeal.Gen.facts, Cert.ReferenceIdeal.Gen.facts,
    Cert.Prologue.Gen.facts, Cert.PrologueIdeal.Gen.facts, Cert.PrologueRefIdeal.Gen.facts,
    Cert.Scatter.Gen.facts, Cert.ScatterIdeal.Gen.facts, Cert.ScatterRefIdeal.Gen.facts, Cert.Pre_finite.Gen.facts, Cert.Pre_apart.Gen.facts,
    fun m g _ => Cert.Kernel.Gen.frame m g, fun m g _ => Cert.KernelIdeal.Gen.frame m g, fun m g _ => Cert.KernelIdeal.Gen.frame m g,
    frame_ri, fun m g _ => frame_ri m g trivial,
    fun m g _ => Cert.Prologue.Gen.frame m g, fun m g _ => Cert.PrologueIdeal.Gen.frame m g, frame_pre,
    fun m g h => Cert.Scatter.Gen.frame m g (Cert.Scatter.Call.ok m (Cert.Pre_apart.of_fn _ _ _ (h 0))),
    fun m g h => Cert.ScatterIdeal.Gen.frame m g (Cert.ScatterIdeal.Call.ok m (Cert.Pre_apart.of_fn _ _ _ (h 0))),
    frame_scatter_ref, fun m g _ => frame_scatter_ref m g trivial,
    IdealRules.named_const.statement Cert.KernelIdeal.κ "mask" .f32 0xF149F2CA#32 ⊥ rfl, algebraic,
    trivial, algebraic_pre, trivial, algebraic_scatter⟩

end Cert.Proof

end
